-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x16x512 : Shape := ⟨3, ![4096, 16, 512]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S4096x16x512 .f32) (main_arg1 : IVec S16 32) : IVec S_ 1 :=
  let main_c : IVec S_ 32 := constantI S_ 32 1#32
  let main_v0 : IVec S16 32 := broadcastInDim S16 ![] bcast_S_S16 main_c
  let main_v1 : IVec S16 1 := cmpi .sge main_arg1 main_v0
  let main_c_0 : IVec S_ 32 := constantI S_ 32 4096#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S4096x16x512 : Shape := ⟨3, ![4096, 16, 512]⟩
abbrev S16 : Shape := ⟨1, ![16]⟩
abbrev S16x1536 : Shape := ⟨2, ![16, 1536]⟩
abbrev S32 : Shape := ⟨1, ![32]⟩
abbrev S128x1x256 : Shape := ⟨3, ![128, 1, 256]⟩
abbrev S3x256 : Shape := ⟨2, ![3, 256]⟩
abbrev S_ : Shape := ⟨0, ![]⟩
abbrev S1 : Shape := ⟨1, ![1]⟩
abbrev S1x1x16 : Shape := ⟨3, ![1, 1, 16]⟩
abbrev S1x1x256 : Shape := ⟨3, ![1, 1, 256]⟩
abbrev S1x16 : Shape := ⟨2, ![1, 16]⟩
abbrev S1x256 : Shape := ⟨2, ![1, 256]⟩

abbrev nBuf : Table → Nat
  | .hbm => 3
  | .local .scVector .vmem => 4
  | _ => 0

abbrev bufTy : (tb : Table) → Fin (nBuf tb) → BufTy
  | .hbm, ⟨0, _⟩ => ⟨S4096x16x512, .f32⟩
  | .hbm, ⟨1, _⟩ => ⟨S16, .i32⟩
  | .hbm, ⟨2, _⟩ => ⟨S16x1536, .f32⟩
  | .local .scVector .vmem, ⟨0, _⟩ => ⟨S32, .i32⟩
  | .local .scVector .vmem, ⟨1, _⟩ => ⟨S128x1x256, .f32⟩
  | .local .scVector .vmem, ⟨2, _⟩ => ⟨S128x1x256, .f32⟩
  | .local .scVector .vmem, ⟨3, _⟩ => ⟨S3x256, .f32⟩
  | _, _ => ⟨S4096x16x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let v0 : Index := Scalar.indexCast arg1
  ![v0.toNat]
def k0_off2 (i : grid0.Coords) (c0_i32_12 : BitVec 32) : Fin 3 → Nat :=
  let c3968_i32 : BitVec 32 := 3968#32
  let v42 : BitVec 32 := Scalar.minsi c0_i32_12 c3968_i32
  let arg1 : BitVec 32 := BitVec.ofNat 32 (i 1).val
  let arg0 : BitVec 32 := BitVec.ofNat 32 (i 0).val
  let c256_i32 : BitVec 32 := 256#32
  let v43 : BitVec 32 := Scalar.muli arg0 c256_i32
  ![v42.toNat, arg1.toNat, v43.toNat]
@[reducible] def k0_t1_loop (v4 : BitVec 32) : Scf.Loop 32 :=
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_26 : BitVec 32 := 1#32
  ⟨c0_i32_24, v73, c1_i32_26⟩

def k0_off3 (i : grid0.Coords) : Fin 3 → Nat :=
  let c0_i32_177 : BitVec 32 := 0#32
  let arg1 : BitVec 32 := BitVec.ofNat 32 (i 1).val
  let arg0 : BitVec 32 := BitVec.ofNat 32 (i 0).val
  let c256_i32_176 : BitVec 32 := 256#32
  let v368 : BitVec 32 := Scalar.muli arg0 c256_i32_176
  ![0, arg1.toNat, v368.toNat]
@[reducible] def k0_t2_loop (v4 : BitVec 32) (k0_t1 : Fin (k0_t1_loop v4).trips) : Scf.Loop 32 :=
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_190 : BitVec 32 := 1#32
  ⟨c0_i32_188, v383, c1_i32_190⟩
def k0_off4 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v416 : Index := Scalar.indexCast v415
  let c0_i32_214 : BitVec 32 := 0#32
  let v417 : Index := Scalar.indexCast c0_i32_214
  let c0_215 : Index := 0#32
  ![v416.toNat, 0, 0]
def k0_off5 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v422 : Index := Scalar.indexCast v415
  let c0_i32_216 : BitVec 32 := 0#32
  let v423 : Index := Scalar.indexCast c0_i32_216
  let c16_217 : Index := 16#32
  ![v422.toNat, 0, 16]
def k0_off6 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v428 : Index := Scalar.indexCast v415
  let c0_i32_218 : BitVec 32 := 0#32
  let v429 : Index := Scalar.indexCast c0_i32_218
  let c32_219 : Index := 32#32
  ![v428.toNat, 0, 32]
def k0_off7 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v434 : Index := Scalar.indexCast v415
  let c0_i32_220 : BitVec 32 := 0#32
  let v435 : Index := Scalar.indexCast c0_i32_220
  let c48_221 : Index := 48#32
  ![v434.toNat, 0, 48]
def k0_off8 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v440 : Index := Scalar.indexCast v415
  let c0_i32_222 : BitVec 32 := 0#32
  let v441 : Index := Scalar.indexCast c0_i32_222
  let c64_223 : Index := 64#32
  ![v440.toNat, 0, 64]
def k0_off9 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v446 : Index := Scalar.indexCast v415
  let c0_i32_224 : BitVec 32 := 0#32
  let v447 : Index := Scalar.indexCast c0_i32_224
  let c80_225 : Index := 80#32
  ![v446.toNat, 0, 80]
def k0_off10 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v452 : Index := Scalar.indexCast v415
  let c0_i32_226 : BitVec 32 := 0#32
  let v453 : Index := Scalar.indexCast c0_i32_226
  let c96_227 : Index := 96#32
  ![v452.toNat, 0, 96]
def k0_off11 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v458 : Index := Scalar.indexCast v415
  let c0_i32_228 : BitVec 32 := 0#32
  let v459 : Index := Scalar.indexCast c0_i32_228
  let c112_229 : Index := 112#32
  ![v458.toNat, 0, 112]
def k0_off12 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v464 : Index := Scalar.indexCast v415
  let c0_i32_230 : BitVec 32 := 0#32
  let v465 : Index := Scalar.indexCast c0_i32_230
  let c128_231 : Index := 128#32
  ![v464.toNat, 0, 128]
def k0_off13 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v470 : Index := Scalar.indexCast v415
  let c0_i32_232 : BitVec 32 := 0#32
  let v471 : Index := Scalar.indexCast c0_i32_232
  let c144_233 : Index := 144#32
  ![v470.toNat, 0, 144]
def k0_off14 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v476 : Index := Scalar.indexCast v415
  let c0_i32_234 : BitVec 32 := 0#32
  let v477 : Index := Scalar.indexCast c0_i32_234
  let c160_235 : Index := 160#32
  ![v476.toNat, 0, 160]
def k0_off15 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v482 : Index := Scalar.indexCast v415
  let c0_i32_236 : BitVec 32 := 0#32
  let v483 : Index := Scalar.indexCast c0_i32_236
  let c176_237 : Index := 176#32
  ![v482.toNat, 0, 176]
def k0_off16 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v488 : Index := Scalar.indexCast v415
  let c0_i32_238 : BitVec 32 := 0#32
  let v489 : Index := Scalar.indexCast c0_i32_238
  let c192_239 : Index := 192#32
  ![v488.toNat, 0, 192]
def k0_off17 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v494 : Index := Scalar.indexCast v415
  let c0_i32_240 : BitVec 32 := 0#32
  let v495 : Index := Scalar.indexCast c0_i32_240
  let c208_241 : Index := 208#32
  ![v494.toNat, 0, 208]
def k0_off18 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v500 : Index := Scalar.indexCast v415
  let c0_i32_242 : BitVec 32 := 0#32
  let v501 : Index := Scalar.indexCast c0_i32_242
  let c224_243 : Index := 224#32
  ![v500.toNat, 0, 224]
def k0_off19 (v4 : BitVec 32) (k0_t1 : Fin (k0_t1_loop v4).trips) (k0_t2 : Fin (k0_t2_loop v4 k0_t1).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t2
  let c1_i32_186 : BitVec 32 := 1#32
  let v414 : BitVec 32 := Scalar.muli arg44 c1_i32_186
  let v415 : BitVec 32 := Scalar.addi c0_i32_187 v414
  let v506 : Index := Scalar.indexCast v415
  let c0_i32_244 : BitVec 32 := 0#32
  let v507 : Index := Scalar.indexCast c0_i32_244
  let c240_245 : Index := 240#32
  ![v506.toNat, 0, 240]
@[reducible] def k0_t3_loop (v4 : BitVec 32) (k0_t1 : Fin (k0_t1_loop v4).trips) : Scf.Loop 32 :=
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let v380 : BitVec 32 := Scalar.addi c0_i32_188 v379
  let c1_i32_191 : BitVec 32 := 1#32
  ⟨v383, v380, c1_i32_191⟩
def k0_off20 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v416 : Index := Scalar.indexCast v415
  let c0_i32_214 : BitVec 32 := 0#32
  let v417 : Index := Scalar.indexCast c0_i32_214
  let c0_215 : Index := 0#32
  ![v416.toNat, 0, 0]
def k0_off21 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v422 : Index := Scalar.indexCast v415
  let c0_i32_216 : BitVec 32 := 0#32
  let v423 : Index := Scalar.indexCast c0_i32_216
  let c16_217 : Index := 16#32
  ![v422.toNat, 0, 16]
def k0_off22 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v428 : Index := Scalar.indexCast v415
  let c0_i32_218 : BitVec 32 := 0#32
  let v429 : Index := Scalar.indexCast c0_i32_218
  let c32_219 : Index := 32#32
  ![v428.toNat, 0, 32]
def k0_off23 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v434 : Index := Scalar.indexCast v415
  let c0_i32_220 : BitVec 32 := 0#32
  let v435 : Index := Scalar.indexCast c0_i32_220
  let c48_221 : Index := 48#32
  ![v434.toNat, 0, 48]
def k0_off24 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v440 : Index := Scalar.indexCast v415
  let c0_i32_222 : BitVec 32 := 0#32
  let v441 : Index := Scalar.indexCast c0_i32_222
  let c64_223 : Index := 64#32
  ![v440.toNat, 0, 64]
def k0_off25 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v446 : Index := Scalar.indexCast v415
  let c0_i32_224 : BitVec 32 := 0#32
  let v447 : Index := Scalar.indexCast c0_i32_224
  let c80_225 : Index := 80#32
  ![v446.toNat, 0, 80]
def k0_off26 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v452 : Index := Scalar.indexCast v415
  let c0_i32_226 : BitVec 32 := 0#32
  let v453 : Index := Scalar.indexCast c0_i32_226
  let c96_227 : Index := 96#32
  ![v452.toNat, 0, 96]
def k0_off27 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v458 : Index := Scalar.indexCast v415
  let c0_i32_228 : BitVec 32 := 0#32
  let v459 : Index := Scalar.indexCast c0_i32_228
  let c112_229 : Index := 112#32
  ![v458.toNat, 0, 112]
def k0_off28 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v464 : Index := Scalar.indexCast v415
  let c0_i32_230 : BitVec 32 := 0#32
  let v465 : Index := Scalar.indexCast c0_i32_230
  let c128_231 : Index := 128#32
  ![v464.toNat, 0, 128]
def k0_off29 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v470 : Index := Scalar.indexCast v415
  let c0_i32_232 : BitVec 32 := 0#32
  let v471 : Index := Scalar.indexCast c0_i32_232
  let c144_233 : Index := 144#32
  ![v470.toNat, 0, 144]
def k0_off30 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v476 : Index := Scalar.indexCast v415
  let c0_i32_234 : BitVec 32 := 0#32
  let v477 : Index := Scalar.indexCast c0_i32_234
  let c160_235 : Index := 160#32
  ![v476.toNat, 0, 160]
def k0_off31 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v482 : Index := Scalar.indexCast v415
  let c0_i32_236 : BitVec 32 := 0#32
  let v483 : Index := Scalar.indexCast c0_i32_236
  let c176_237 : Index := 176#32
  ![v482.toNat, 0, 176]
def k0_off32 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v488 : Index := Scalar.indexCast v415
  let c0_i32_238 : BitVec 32 := 0#32
  let v489 : Index := Scalar.indexCast c0_i32_238
  let c192_239 : Index := 192#32
  ![v488.toNat, 0, 192]
def k0_off33 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v494 : Index := Scalar.indexCast v415
  let c0_i32_240 : BitVec 32 := 0#32
  let v495 : Index := Scalar.indexCast c0_i32_240
  let c208_241 : Index := 208#32
  ![v494.toNat, 0, 208]
def k0_off34 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v500 : Index := Scalar.indexCast v415
  let c0_i32_242 : BitVec 32 := 0#32
  let v501 : Index := Scalar.indexCast c0_i32_242
  let c224_243 : Index := 224#32
  ![v500.toNat, 0, 224]
def k0_off35 (v4 : BitVec 32) (k0_t1 : Fin (k0_t1_loop v4).trips) (k0_t3 : Fin (k0_t3_loop v4 k0_t1).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t3
  let c1_i32_186 : BitVec 32 := 1#32
  let v414 : BitVec 32 := Scalar.muli arg44 c1_i32_186
  let v415 : BitVec 32 := Scalar.addi c0_i32_187 v414
  let v506 : Index := Scalar.indexCast v415
  let c0_i32_244 : BitVec 32 := 0#32
  let v507 : Index := Scalar.indexCast c0_i32_244
  let c240_245 : Index := 240#32
  ![v506.toNat, 0, 240]
def k0_off36 (i : grid0.Coords) (v4 : BitVec 32) (k0_t1 : Fin (k0_t1_loop v4).trips) : Fin 3 → Nat :=
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c2_i32_214 : BitVec 32 := 2#32
  let v414 : BitVec 32 := Scalar.addi v367 c2_i32_214
  let c128_i32_215 : BitVec 32 := 128#32
  let v415 : BitVec 32 := Scalar.muli v414 c128_i32_215
  let c3968_i32_216 : BitVec 32 := 3968#32
  let v416 : BitVec 32 := Scalar.minsi v415 c3968_i32_216
  let arg1 : BitVec 32 := BitVec.ofNat 32 (i 1).val
  let arg0 : BitVec 32 := BitVec.ofNat 32 (i 0).val
  let c256_i32_217 : BitVec 32 := 256#32
  let v417 : BitVec 32 := Scalar.muli arg0 c256_i32_217
  ![v416.toNat, arg1.toNat, v417.toNat]
def k0_cond1 (v4 : BitVec 32) (k0_t1 : Fin (k0_t1_loop v4).trips) : BitVec 1 :=
  let c2_i32_174 : BitVec 32 := 2#32
  let c0_i32_24 : BitVec 32 := 0#32
  let c1_i32_26 : BitVec 32 := 1#32
  let arg11 : BitVec 32 := Scf.iv c0_i32_24 c1_i32_26 k0_t1
  let v366 : BitVec 32 := Scalar.muli c2_i32_174 arg11
  let c0_i32_175 : BitVec 32 := 0#32
  let v367 : BitVec 32 := Scalar.addi v366 c0_i32_175
  let c2_i32_192 : BitVec 32 := 2#32
  let v386 : BitVec 32 := Scalar.addi v367 c2_i32_192
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let v387 : BitVec 1 := Scalar.cmpi .slt v386 v41
  let v388 : BitVec 32 := Scalar.extui v387
  let c0_i32_193 : BitVec 32 := 0#32
  let v389 : BitVec 1 := Scalar.cmpi .ne v388 c0_i32_193
  v389

@[reducible] def k0_t4_loop (v4 : BitVec 32) (k0_t1 : Fin (k0_t1_loop v4).trips) : Scf.Loop 32 :=
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_210 : BitVec 32 := 1#32
  ⟨c0_i32_208, v407, c1_i32_210⟩
def k0_off37 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v416 : Index := Scalar.indexCast v415
  let c0_i32_214 : BitVec 32 := 0#32
  let v417 : Index := Scalar.indexCast c0_i32_214
  let c0_215 : Index := 0#32
  ![v416.toNat, 0, 0]
def k0_off38 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v422 : Index := Scalar.indexCast v415
  let c0_i32_216 : BitVec 32 := 0#32
  let v423 : Index := Scalar.indexCast c0_i32_216
  let c16_217 : Index := 16#32
  ![v422.toNat, 0, 16]
def k0_off39 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v428 : Index := Scalar.indexCast v415
  let c0_i32_218 : BitVec 32 := 0#32
  let v429 : Index := Scalar.indexCast c0_i32_218
  let c32_219 : Index := 32#32
  ![v428.toNat, 0, 32]
def k0_off40 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v434 : Index := Scalar.indexCast v415
  let c0_i32_220 : BitVec 32 := 0#32
  let v435 : Index := Scalar.indexCast c0_i32_220
  let c48_221 : Index := 48#32
  ![v434.toNat, 0, 48]
def k0_off41 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v440 : Index := Scalar.indexCast v415
  let c0_i32_222 : BitVec 32 := 0#32
  let v441 : Index := Scalar.indexCast c0_i32_222
  let c64_223 : Index := 64#32
  ![v440.toNat, 0, 64]
def k0_off42 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v446 : Index := Scalar.indexCast v415
  let c0_i32_224 : BitVec 32 := 0#32
  let v447 : Index := Scalar.indexCast c0_i32_224
  let c80_225 : Index := 80#32
  ![v446.toNat, 0, 80]
def k0_off43 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v452 : Index := Scalar.indexCast v415
  let c0_i32_226 : BitVec 32 := 0#32
  let v453 : Index := Scalar.indexCast c0_i32_226
  let c96_227 : Index := 96#32
  ![v452.toNat, 0, 96]
def k0_off44 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v458 : Index := Scalar.indexCast v415
  let c0_i32_228 : BitVec 32 := 0#32
  let v459 : Index := Scalar.indexCast c0_i32_228
  let c112_229 : Index := 112#32
  ![v458.toNat, 0, 112]
def k0_off45 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v464 : Index := Scalar.indexCast v415
  let c0_i32_230 : BitVec 32 := 0#32
  let v465 : Index := Scalar.indexCast c0_i32_230
  let c128_231 : Index := 128#32
  ![v464.toNat, 0, 128]
def k0_off46 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v470 : Index := Scalar.indexCast v415
  let c0_i32_232 : BitVec 32 := 0#32
  let v471 : Index := Scalar.indexCast c0_i32_232
  let c144_233 : Index := 144#32
  ![v470.toNat, 0, 144]
def k0_off47 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v476 : Index := Scalar.indexCast v415
  let c0_i32_234 : BitVec 32 := 0#32
  let v477 : Index := Scalar.indexCast c0_i32_234
  let c160_235 : Index := 160#32
  ![v476.toNat, 0, 160]
def k0_off48 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v482 : Index := Scalar.indexCast v415
  let c0_i32_236 : BitVec 32 := 0#32
  let v483 : Index := Scalar.indexCast c0_i32_236
  let c176_237 : Index := 176#32
  ![v482.toNat, 0, 176]
def k0_off49 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v488 : Index := Scalar.indexCast v415
  let c0_i32_238 : BitVec 32 := 0#32
  let v489 : Index := Scalar.indexCast c0_i32_238
  let c192_239 : Index := 192#32
  ![v488.toNat, 0, 192]
def k0_off50 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v494 : Index := Scalar.indexCast v415
  let c0_i32_240 : BitVec 32 := 0#32
  let v495 : Index := Scalar.indexCast c0_i32_240
  let c208_241 : Index := 208#32
  ![v494.toNat, 0, 208]
def k0_off51 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v500 : Index := Scalar.indexCast v415
  let c0_i32_242 : BitVec 32 := 0#32
  let v501 : Index := Scalar.indexCast c0_i32_242
  let c224_243 : Index := 224#32
  ![v500.toNat, 0, 224]
def k0_off52 (v4 : BitVec 32) (k0_t1 : Fin (k0_t1_loop v4).trips) (k0_t4 : Fin (k0_t4_loop v4 k0_t1).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t4
  let c1_i32_206 : BitVec 32 := 1#32
  let v414 : BitVec 32 := Scalar.muli arg44 c1_i32_206
  let v415 : BitVec 32 := Scalar.addi c0_i32_207 v414
  let v506 : Index := Scalar.indexCast v415
  let c0_i32_244 : BitVec 32 := 0#32
  let v507 : Index := Scalar.indexCast c0_i32_244
  let c240_245 : Index := 240#32
  ![v506.toNat, 0, 240]
@[reducible] def k0_t5_loop (v4 : BitVec 32) (k0_t1 : Fin (k0_t1_loop v4).trips) : Scf.Loop 32 :=
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let v404 : BitVec 32 := Scalar.addi c0_i32_208 v403
  let c1_i32_211 : BitVec 32 := 1#32
  ⟨v407, v404, c1_i32_211⟩
def k0_off53 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v416 : Index := Scalar.indexCast v415
  let c0_i32_214 : BitVec 32 := 0#32
  let v417 : Index := Scalar.indexCast c0_i32_214
  let c0_215 : Index := 0#32
  ![v416.toNat, 0, 0]
def k0_off54 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v422 : Index := Scalar.indexCast v415
  let c0_i32_216 : BitVec 32 := 0#32
  let v423 : Index := Scalar.indexCast c0_i32_216
  let c16_217 : Index := 16#32
  ![v422.toNat, 0, 16]
def k0_off55 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v428 : Index := Scalar.indexCast v415
  let c0_i32_218 : BitVec 32 := 0#32
  let v429 : Index := Scalar.indexCast c0_i32_218
  let c32_219 : Index := 32#32
  ![v428.toNat, 0, 32]
def k0_off56 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v434 : Index := Scalar.indexCast v415
  let c0_i32_220 : BitVec 32 := 0#32
  let v435 : Index := Scalar.indexCast c0_i32_220
  let c48_221 : Index := 48#32
  ![v434.toNat, 0, 48]
def k0_off57 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v440 : Index := Scalar.indexCast v415
  let c0_i32_222 : BitVec 32 := 0#32
  let v441 : Index := Scalar.indexCast c0_i32_222
  let c64_223 : Index := 64#32
  ![v440.toNat, 0, 64]
def k0_off58 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v446 : Index := Scalar.indexCast v415
  let c0_i32_224 : BitVec 32 := 0#32
  let v447 : Index := Scalar.indexCast c0_i32_224
  let c80_225 : Index := 80#32
  ![v446.toNat, 0, 80]
def k0_off59 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v452 : Index := Scalar.indexCast v415
  let c0_i32_226 : BitVec 32 := 0#32
  let v453 : Index := Scalar.indexCast c0_i32_226
  let c96_227 : Index := 96#32
  ![v452.toNat, 0, 96]
def k0_off60 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v458 : Index := Scalar.indexCast v415
  let c0_i32_228 : BitVec 32 := 0#32
  let v459 : Index := Scalar.indexCast c0_i32_228
  let c112_229 : Index := 112#32
  ![v458.toNat, 0, 112]
def k0_off61 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v464 : Index := Scalar.indexCast v415
  let c0_i32_230 : BitVec 32 := 0#32
  let v465 : Index := Scalar.indexCast c0_i32_230
  let c128_231 : Index := 128#32
  ![v464.toNat, 0, 128]
def k0_off62 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v470 : Index := Scalar.indexCast v415
  let c0_i32_232 : BitVec 32 := 0#32
  let v471 : Index := Scalar.indexCast c0_i32_232
  let c144_233 : Index := 144#32
  ![v470.toNat, 0, 144]
def k0_off63 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v476 : Index := Scalar.indexCast v415
  let c0_i32_234 : BitVec 32 := 0#32
  let v477 : Index := Scalar.indexCast c0_i32_234
  let c160_235 : Index := 160#32
  ![v476.toNat, 0, 160]
def k0_off64 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v482 : Index := Scalar.indexCast v415
  let c0_i32_236 : BitVec 32 := 0#32
  let v483 : Index := Scalar.indexCast c0_i32_236
  let c176_237 : Index := 176#32
  ![v482.toNat, 0, 176]
def k0_off65 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v488 : Index := Scalar.indexCast v415
  let c0_i32_238 : BitVec 32 := 0#32
  let v489 : Index := Scalar.indexCast c0_i32_238
  let c192_239 : Index := 192#32
  ![v488.toNat, 0, 192]
def k0_off66 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v494 : Index := Scalar.indexCast v415
  let c0_i32_240 : BitVec 32 := 0#32
  let v495 : Index := Scalar.indexCast c0_i32_240
  let c208_241 : Index := 208#32
  ![v494.toNat, 0, 208]
def k0_off67 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v500 : Index := Scalar.indexCast v415
  let c0_i32_242 : BitVec 32 := 0#32
  let v501 : Index := Scalar.indexCast c0_i32_242
  let c224_243 : Index := 224#32
  ![v500.toNat, 0, 224]
def k0_off68 (v4 : BitVec 32) (k0_t1 : Fin (k0_t1_loop v4).trips) (k0_t5 : Fin (k0_t5_loop v4 k0_t1).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t5
  let c1_i32_206 : BitVec 32 := 1#32
  let v414 : BitVec 32 := Scalar.muli arg44 c1_i32_206
  let v415 : BitVec 32 := Scalar.addi c0_i32_207 v414
  let v506 : Index := Scalar.indexCast v415
  let c0_i32_244 : BitVec 32 := 0#32
  let v507 : Index := Scalar.indexCast c0_i32_244
  let c240_245 : Index := 240#32
  ![v506.toNat, 0, 240]
def k0_off69 (i : grid0.Coords) (v4 : BitVec 32) (k0_t1 : Fin (k0_t1_loop v4).trips) : Fin 3 → Nat :=
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c2_i32_214 : BitVec 32 := 2#32
  let v414 : BitVec 32 := Scalar.addi v391 c2_i32_214
  let c128_i32_215 : BitVec 32 := 128#32
  let v415 : BitVec 32 := Scalar.muli v414 c128_i32_215
  let c3968_i32_216 : BitVec 32 := 3968#32
  let v416 : BitVec 32 := Scalar.minsi v415 c3968_i32_216
  let arg1 : BitVec 32 := BitVec.ofNat 32 (i 1).val
  let arg0 : BitVec 32 := BitVec.ofNat 32 (i 0).val
  let c256_i32_217 : BitVec 32 := 256#32
  let v417 : BitVec 32 := Scalar.muli arg0 c256_i32_217
  ![v416.toNat, arg1.toNat, v417.toNat]
def k0_cond2 (v4 : BitVec 32) (k0_t1 : Fin (k0_t1_loop v4).trips) : BitVec 1 :=
  let c2_i32_194 : BitVec 32 := 2#32
  let c0_i32_24 : BitVec 32 := 0#32
  let c1_i32_26 : BitVec 32 := 1#32
  let arg11 : BitVec 32 := Scf.iv c0_i32_24 c1_i32_26 k0_t1
  let v390 : BitVec 32 := Scalar.muli c2_i32_194 arg11
  let c1_i32_195 : BitVec 32 := 1#32
  let v391 : BitVec 32 := Scalar.addi v390 c1_i32_195
  let c2_i32_212 : BitVec 32 := 2#32
  let v410 : BitVec 32 := Scalar.addi v391 c2_i32_212
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let v411 : BitVec 1 := Scalar.cmpi .slt v410 v41
  let v412 : BitVec 32 := Scalar.extui v411
  let c0_i32_213 : BitVec 32 := 0#32
  let v413 : BitVec 1 := Scalar.cmpi .ne v412 c0_i32_213
  v413

@[reducible] def k0_t6_loop (v4 : BitVec 32) : Scf.Loop 32 :=
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let v70 : BitVec 32 := Scalar.addi c0_i32_24 v69
  let c1_i32_27 : BitVec 32 := 1#32
  ⟨v73, v70, c1_i32_27⟩
def k0_off70 (i : grid0.Coords) : Fin 3 → Nat :=
  let c0_i32_177 : BitVec 32 := 0#32
  let arg1 : BitVec 32 := BitVec.ofNat 32 (i 1).val
  let arg0 : BitVec 32 := BitVec.ofNat 32 (i 0).val
  let c256_i32_176 : BitVec 32 := 256#32
  let v368 : BitVec 32 := Scalar.muli arg0 c256_i32_176
  ![0, arg1.toNat, v368.toNat]
@[reducible] def k0_t7_loop (v4 : BitVec 32) (k0_t6 : Fin (k0_t6_loop v4).trips) : Scf.Loop 32 :=
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_190 : BitVec 32 := 1#32
  ⟨c0_i32_188, v383, c1_i32_190⟩
def k0_off71 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v416 : Index := Scalar.indexCast v415
  let c0_i32_214 : BitVec 32 := 0#32
  let v417 : Index := Scalar.indexCast c0_i32_214
  let c0_215 : Index := 0#32
  ![v416.toNat, 0, 0]
def k0_off72 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v422 : Index := Scalar.indexCast v415
  let c0_i32_216 : BitVec 32 := 0#32
  let v423 : Index := Scalar.indexCast c0_i32_216
  let c16_217 : Index := 16#32
  ![v422.toNat, 0, 16]
def k0_off73 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v428 : Index := Scalar.indexCast v415
  let c0_i32_218 : BitVec 32 := 0#32
  let v429 : Index := Scalar.indexCast c0_i32_218
  let c32_219 : Index := 32#32
  ![v428.toNat, 0, 32]
def k0_off74 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v434 : Index := Scalar.indexCast v415
  let c0_i32_220 : BitVec 32 := 0#32
  let v435 : Index := Scalar.indexCast c0_i32_220
  let c48_221 : Index := 48#32
  ![v434.toNat, 0, 48]
def k0_off75 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v440 : Index := Scalar.indexCast v415
  let c0_i32_222 : BitVec 32 := 0#32
  let v441 : Index := Scalar.indexCast c0_i32_222
  let c64_223 : Index := 64#32
  ![v440.toNat, 0, 64]
def k0_off76 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v446 : Index := Scalar.indexCast v415
  let c0_i32_224 : BitVec 32 := 0#32
  let v447 : Index := Scalar.indexCast c0_i32_224
  let c80_225 : Index := 80#32
  ![v446.toNat, 0, 80]
def k0_off77 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v452 : Index := Scalar.indexCast v415
  let c0_i32_226 : BitVec 32 := 0#32
  let v453 : Index := Scalar.indexCast c0_i32_226
  let c96_227 : Index := 96#32
  ![v452.toNat, 0, 96]
def k0_off78 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v458 : Index := Scalar.indexCast v415
  let c0_i32_228 : BitVec 32 := 0#32
  let v459 : Index := Scalar.indexCast c0_i32_228
  let c112_229 : Index := 112#32
  ![v458.toNat, 0, 112]
def k0_off79 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v464 : Index := Scalar.indexCast v415
  let c0_i32_230 : BitVec 32 := 0#32
  let v465 : Index := Scalar.indexCast c0_i32_230
  let c128_231 : Index := 128#32
  ![v464.toNat, 0, 128]
def k0_off80 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v470 : Index := Scalar.indexCast v415
  let c0_i32_232 : BitVec 32 := 0#32
  let v471 : Index := Scalar.indexCast c0_i32_232
  let c144_233 : Index := 144#32
  ![v470.toNat, 0, 144]
def k0_off81 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v476 : Index := Scalar.indexCast v415
  let c0_i32_234 : BitVec 32 := 0#32
  let v477 : Index := Scalar.indexCast c0_i32_234
  let c160_235 : Index := 160#32
  ![v476.toNat, 0, 160]
def k0_off82 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v482 : Index := Scalar.indexCast v415
  let c0_i32_236 : BitVec 32 := 0#32
  let v483 : Index := Scalar.indexCast c0_i32_236
  let c176_237 : Index := 176#32
  ![v482.toNat, 0, 176]
def k0_off83 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v488 : Index := Scalar.indexCast v415
  let c0_i32_238 : BitVec 32 := 0#32
  let v489 : Index := Scalar.indexCast c0_i32_238
  let c192_239 : Index := 192#32
  ![v488.toNat, 0, 192]
def k0_off84 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v494 : Index := Scalar.indexCast v415
  let c0_i32_240 : BitVec 32 := 0#32
  let v495 : Index := Scalar.indexCast c0_i32_240
  let c208_241 : Index := 208#32
  ![v494.toNat, 0, 208]
def k0_off85 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v500 : Index := Scalar.indexCast v415
  let c0_i32_242 : BitVec 32 := 0#32
  let v501 : Index := Scalar.indexCast c0_i32_242
  let c224_243 : Index := 224#32
  ![v500.toNat, 0, 224]
def k0_off86 (v4 : BitVec 32) (k0_t6 : Fin (k0_t6_loop v4).trips) (k0_t7 : Fin (k0_t7_loop v4 k0_t6).trips) : Fin 3 → Nat :=
  let c0_i32_187 : BitVec 32 := 0#32
  let c0_i32_188 : BitVec 32 := 0#32
  let c1_i32_190 : BitVec 32 := 1#32
  let arg44 : BitVec 32 := Scf.iv c0_i32_188 c1_i32_190 k0_t7
  let c1_i32_186 : BitVec 32 := 1#32
  let v414 : BitVec 32 := Scalar.muli arg44 c1_i32_186
  let v415 : BitVec 32 := Scalar.addi c0_i32_187 v414
  let v506 : Index := Scalar.indexCast v415
  let c0_i32_244 : BitVec 32 := 0#32
  let v507 : Index := Scalar.indexCast c0_i32_244
  let c240_245 : Index := 240#32
  ![v506.toNat, 0, 240]
@[reducible] def k0_t8_loop (v4 : BitVec 32) (k0_t6 : Fin (k0_t6_loop v4).trips) : Scf.Loop 32 :=
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let v380 : BitVec 32 := Scalar.addi c0_i32_188 v379
  let c1_i32_191 : BitVec 32 := 1#32
  ⟨v383, v380, c1_i32_191⟩
def k0_off87 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v416 : Index := Scalar.indexCast v415
  let c0_i32_214 : BitVec 32 := 0#32
  let v417 : Index := Scalar.indexCast c0_i32_214
  let c0_215 : Index := 0#32
  ![v416.toNat, 0, 0]
def k0_off88 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v422 : Index := Scalar.indexCast v415
  let c0_i32_216 : BitVec 32 := 0#32
  let v423 : Index := Scalar.indexCast c0_i32_216
  let c16_217 : Index := 16#32
  ![v422.toNat, 0, 16]
def k0_off89 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v428 : Index := Scalar.indexCast v415
  let c0_i32_218 : BitVec 32 := 0#32
  let v429 : Index := Scalar.indexCast c0_i32_218
  let c32_219 : Index := 32#32
  ![v428.toNat, 0, 32]
def k0_off90 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v434 : Index := Scalar.indexCast v415
  let c0_i32_220 : BitVec 32 := 0#32
  let v435 : Index := Scalar.indexCast c0_i32_220
  let c48_221 : Index := 48#32
  ![v434.toNat, 0, 48]
def k0_off91 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v440 : Index := Scalar.indexCast v415
  let c0_i32_222 : BitVec 32 := 0#32
  let v441 : Index := Scalar.indexCast c0_i32_222
  let c64_223 : Index := 64#32
  ![v440.toNat, 0, 64]
def k0_off92 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v446 : Index := Scalar.indexCast v415
  let c0_i32_224 : BitVec 32 := 0#32
  let v447 : Index := Scalar.indexCast c0_i32_224
  let c80_225 : Index := 80#32
  ![v446.toNat, 0, 80]
def k0_off93 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v452 : Index := Scalar.indexCast v415
  let c0_i32_226 : BitVec 32 := 0#32
  let v453 : Index := Scalar.indexCast c0_i32_226
  let c96_227 : Index := 96#32
  ![v452.toNat, 0, 96]
def k0_off94 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v458 : Index := Scalar.indexCast v415
  let c0_i32_228 : BitVec 32 := 0#32
  let v459 : Index := Scalar.indexCast c0_i32_228
  let c112_229 : Index := 112#32
  ![v458.toNat, 0, 112]
def k0_off95 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v464 : Index := Scalar.indexCast v415
  let c0_i32_230 : BitVec 32 := 0#32
  let v465 : Index := Scalar.indexCast c0_i32_230
  let c128_231 : Index := 128#32
  ![v464.toNat, 0, 128]
def k0_off96 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v470 : Index := Scalar.indexCast v415
  let c0_i32_232 : BitVec 32 := 0#32
  let v471 : Index := Scalar.indexCast c0_i32_232
  let c144_233 : Index := 144#32
  ![v470.toNat, 0, 144]
def k0_off97 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v476 : Index := Scalar.indexCast v415
  let c0_i32_234 : BitVec 32 := 0#32
  let v477 : Index := Scalar.indexCast c0_i32_234
  let c160_235 : Index := 160#32
  ![v476.toNat, 0, 160]
def k0_off98 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v482 : Index := Scalar.indexCast v415
  let c0_i32_236 : BitVec 32 := 0#32
  let v483 : Index := Scalar.indexCast c0_i32_236
  let c176_237 : Index := 176#32
  ![v482.toNat, 0, 176]
def k0_off99 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v488 : Index := Scalar.indexCast v415
  let c0_i32_238 : BitVec 32 := 0#32
  let v489 : Index := Scalar.indexCast c0_i32_238
  let c192_239 : Index := 192#32
  ![v488.toNat, 0, 192]
def k0_off100 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v494 : Index := Scalar.indexCast v415
  let c0_i32_240 : BitVec 32 := 0#32
  let v495 : Index := Scalar.indexCast c0_i32_240
  let c208_241 : Index := 208#32
  ![v494.toNat, 0, 208]
def k0_off101 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v500 : Index := Scalar.indexCast v415
  let c0_i32_242 : BitVec 32 := 0#32
  let v501 : Index := Scalar.indexCast c0_i32_242
  let c224_243 : Index := 224#32
  ![v500.toNat, 0, 224]
def k0_off102 (v4 : BitVec 32) (k0_t6 : Fin (k0_t6_loop v4).trips) (k0_t8 : Fin (k0_t8_loop v4 k0_t6).trips) : Fin 3 → Nat :=
  let c0_i32_187 : BitVec 32 := 0#32
  let c0_i32_188 : BitVec 32 := 0#32
  let c0_i32_181 : BitVec 32 := 0#32
  let c128_i32_180 : BitVec 32 := 128#32
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c128_i32_179 : BitVec 32 := 128#32
  let v371 : BitVec 32 := Scalar.muli v367 c128_i32_179
  let v372 : BitVec 32 := Scalar.subi v4 v371
  let v373 : BitVec 32 := Scalar.minsi c128_i32_180 v372
  let v374 : BitVec 32 := Scalar.maxsi c0_i32_181 v373
  let c0_i32_182 : BitVec 32 := 0#32
  let v375 : BitVec 32 := Scalar.subi v374 c0_i32_182
  let c1_i32_183 : BitVec 32 := 1#32
  let c1_i32_184 : BitVec 32 := 1#32
  let v376 : BitVec 32 := Scalar.subi c1_i32_183 c1_i32_184
  let v377 : BitVec 32 := Scalar.addi v375 v376
  let c1_i32_185 : BitVec 32 := 1#32
  let v378 : BitVec 32 := Scalar.divsi v377 c1_i32_185
  let v379 : BitVec 32 := Scalar.subi v378 c0_i32_188
  let c1_i32_189 : BitVec 32 := 1#32
  let v381 : BitVec 32 := Scalar.divsi v379 c1_i32_189
  let v382 : BitVec 32 := Scalar.muli v381 c1_i32_189
  let v383 : BitVec 32 := Scalar.addi c0_i32_188 v382
  let c1_i32_191 : BitVec 32 := 1#32
  let arg44 : BitVec 32 := Scf.iv v383 c1_i32_191 k0_t8
  let c1_i32_186 : BitVec 32 := 1#32
  let v414 : BitVec 32 := Scalar.muli arg44 c1_i32_186
  let v415 : BitVec 32 := Scalar.addi c0_i32_187 v414
  let v506 : Index := Scalar.indexCast v415
  let c0_i32_244 : BitVec 32 := 0#32
  let v507 : Index := Scalar.indexCast c0_i32_244
  let c240_245 : Index := 240#32
  ![v506.toNat, 0, 240]
def k0_off103 (i : grid0.Coords) (v4 : BitVec 32) (k0_t6 : Fin (k0_t6_loop v4).trips) : Fin 3 → Nat :=
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c2_i32_214 : BitVec 32 := 2#32
  let v414 : BitVec 32 := Scalar.addi v367 c2_i32_214
  let c128_i32_215 : BitVec 32 := 128#32
  let v415 : BitVec 32 := Scalar.muli v414 c128_i32_215
  let c3968_i32_216 : BitVec 32 := 3968#32
  let v416 : BitVec 32 := Scalar.minsi v415 c3968_i32_216
  let arg1 : BitVec 32 := BitVec.ofNat 32 (i 1).val
  let arg0 : BitVec 32 := BitVec.ofNat 32 (i 0).val
  let c256_i32_217 : BitVec 32 := 256#32
  let v417 : BitVec 32 := Scalar.muli arg0 c256_i32_217
  ![v416.toNat, arg1.toNat, v417.toNat]
def k0_cond3 (v4 : BitVec 32) (k0_t6 : Fin (k0_t6_loop v4).trips) : BitVec 1 :=
  let c2_i32_174 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v366 : BitVec 32 := Scalar.muli c2_i32_174 arg11
  let c0_i32_175 : BitVec 32 := 0#32
  let v367 : BitVec 32 := Scalar.addi v366 c0_i32_175
  let c2_i32_192 : BitVec 32 := 2#32
  let v386 : BitVec 32 := Scalar.addi v367 c2_i32_192
  let v387 : BitVec 1 := Scalar.cmpi .slt v386 v41
  let v388 : BitVec 32 := Scalar.extui v387
  let c0_i32_193 : BitVec 32 := 0#32
  let v389 : BitVec 1 := Scalar.cmpi .ne v388 c0_i32_193
  v389

@[reducible] def k0_t9_loop (v4 : BitVec 32) (k0_t6 : Fin (k0_t6_loop v4).trips) : Scf.Loop 32 :=
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_210 : BitVec 32 := 1#32
  ⟨c0_i32_208, v407, c1_i32_210⟩
def k0_off104 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v416 : Index := Scalar.indexCast v415
  let c0_i32_214 : BitVec 32 := 0#32
  let v417 : Index := Scalar.indexCast c0_i32_214
  let c0_215 : Index := 0#32
  ![v416.toNat, 0, 0]
def k0_off105 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v422 : Index := Scalar.indexCast v415
  let c0_i32_216 : BitVec 32 := 0#32
  let v423 : Index := Scalar.indexCast c0_i32_216
  let c16_217 : Index := 16#32
  ![v422.toNat, 0, 16]
def k0_off106 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v428 : Index := Scalar.indexCast v415
  let c0_i32_218 : BitVec 32 := 0#32
  let v429 : Index := Scalar.indexCast c0_i32_218
  let c32_219 : Index := 32#32
  ![v428.toNat, 0, 32]
def k0_off107 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v434 : Index := Scalar.indexCast v415
  let c0_i32_220 : BitVec 32 := 0#32
  let v435 : Index := Scalar.indexCast c0_i32_220
  let c48_221 : Index := 48#32
  ![v434.toNat, 0, 48]
def k0_off108 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v440 : Index := Scalar.indexCast v415
  let c0_i32_222 : BitVec 32 := 0#32
  let v441 : Index := Scalar.indexCast c0_i32_222
  let c64_223 : Index := 64#32
  ![v440.toNat, 0, 64]
def k0_off109 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v446 : Index := Scalar.indexCast v415
  let c0_i32_224 : BitVec 32 := 0#32
  let v447 : Index := Scalar.indexCast c0_i32_224
  let c80_225 : Index := 80#32
  ![v446.toNat, 0, 80]
def k0_off110 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v452 : Index := Scalar.indexCast v415
  let c0_i32_226 : BitVec 32 := 0#32
  let v453 : Index := Scalar.indexCast c0_i32_226
  let c96_227 : Index := 96#32
  ![v452.toNat, 0, 96]
def k0_off111 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v458 : Index := Scalar.indexCast v415
  let c0_i32_228 : BitVec 32 := 0#32
  let v459 : Index := Scalar.indexCast c0_i32_228
  let c112_229 : Index := 112#32
  ![v458.toNat, 0, 112]
def k0_off112 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v464 : Index := Scalar.indexCast v415
  let c0_i32_230 : BitVec 32 := 0#32
  let v465 : Index := Scalar.indexCast c0_i32_230
  let c128_231 : Index := 128#32
  ![v464.toNat, 0, 128]
def k0_off113 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v470 : Index := Scalar.indexCast v415
  let c0_i32_232 : BitVec 32 := 0#32
  let v471 : Index := Scalar.indexCast c0_i32_232
  let c144_233 : Index := 144#32
  ![v470.toNat, 0, 144]
def k0_off114 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v476 : Index := Scalar.indexCast v415
  let c0_i32_234 : BitVec 32 := 0#32
  let v477 : Index := Scalar.indexCast c0_i32_234
  let c160_235 : Index := 160#32
  ![v476.toNat, 0, 160]
def k0_off115 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v482 : Index := Scalar.indexCast v415
  let c0_i32_236 : BitVec 32 := 0#32
  let v483 : Index := Scalar.indexCast c0_i32_236
  let c176_237 : Index := 176#32
  ![v482.toNat, 0, 176]
def k0_off116 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v488 : Index := Scalar.indexCast v415
  let c0_i32_238 : BitVec 32 := 0#32
  let v489 : Index := Scalar.indexCast c0_i32_238
  let c192_239 : Index := 192#32
  ![v488.toNat, 0, 192]
def k0_off117 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v494 : Index := Scalar.indexCast v415
  let c0_i32_240 : BitVec 32 := 0#32
  let v495 : Index := Scalar.indexCast c0_i32_240
  let c208_241 : Index := 208#32
  ![v494.toNat, 0, 208]
def k0_off118 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v500 : Index := Scalar.indexCast v415
  let c0_i32_242 : BitVec 32 := 0#32
  let v501 : Index := Scalar.indexCast c0_i32_242
  let c224_243 : Index := 224#32
  ![v500.toNat, 0, 224]
def k0_off119 (v4 : BitVec 32) (k0_t6 : Fin (k0_t6_loop v4).trips) (k0_t9 : Fin (k0_t9_loop v4 k0_t6).trips) : Fin 3 → Nat :=
  let c0_i32_207 : BitVec 32 := 0#32
  let c0_i32_208 : BitVec 32 := 0#32
  let c1_i32_210 : BitVec 32 := 1#32
  let arg44 : BitVec 32 := Scf.iv c0_i32_208 c1_i32_210 k0_t9
  let c1_i32_206 : BitVec 32 := 1#32
  let v414 : BitVec 32 := Scalar.muli arg44 c1_i32_206
  let v415 : BitVec 32 := Scalar.addi c0_i32_207 v414
  let v506 : Index := Scalar.indexCast v415
  let c0_i32_244 : BitVec 32 := 0#32
  let v507 : Index := Scalar.indexCast c0_i32_244
  let c240_245 : Index := 240#32
  ![v506.toNat, 0, 240]
@[reducible] def k0_t10_loop (v4 : BitVec 32) (k0_t6 : Fin (k0_t6_loop v4).trips) : Scf.Loop 32 :=
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let v404 : BitVec 32 := Scalar.addi c0_i32_208 v403
  let c1_i32_211 : BitVec 32 := 1#32
  ⟨v407, v404, c1_i32_211⟩
def k0_off120 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v416 : Index := Scalar.indexCast v415
  let c0_i32_214 : BitVec 32 := 0#32
  let v417 : Index := Scalar.indexCast c0_i32_214
  let c0_215 : Index := 0#32
  ![v416.toNat, 0, 0]
def k0_off121 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v422 : Index := Scalar.indexCast v415
  let c0_i32_216 : BitVec 32 := 0#32
  let v423 : Index := Scalar.indexCast c0_i32_216
  let c16_217 : Index := 16#32
  ![v422.toNat, 0, 16]
def k0_off122 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v428 : Index := Scalar.indexCast v415
  let c0_i32_218 : BitVec 32 := 0#32
  let v429 : Index := Scalar.indexCast c0_i32_218
  let c32_219 : Index := 32#32
  ![v428.toNat, 0, 32]
def k0_off123 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v434 : Index := Scalar.indexCast v415
  let c0_i32_220 : BitVec 32 := 0#32
  let v435 : Index := Scalar.indexCast c0_i32_220
  let c48_221 : Index := 48#32
  ![v434.toNat, 0, 48]
def k0_off124 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v440 : Index := Scalar.indexCast v415
  let c0_i32_222 : BitVec 32 := 0#32
  let v441 : Index := Scalar.indexCast c0_i32_222
  let c64_223 : Index := 64#32
  ![v440.toNat, 0, 64]
def k0_off125 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v446 : Index := Scalar.indexCast v415
  let c0_i32_224 : BitVec 32 := 0#32
  let v447 : Index := Scalar.indexCast c0_i32_224
  let c80_225 : Index := 80#32
  ![v446.toNat, 0, 80]
def k0_off126 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v452 : Index := Scalar.indexCast v415
  let c0_i32_226 : BitVec 32 := 0#32
  let v453 : Index := Scalar.indexCast c0_i32_226
  let c96_227 : Index := 96#32
  ![v452.toNat, 0, 96]
def k0_off127 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v458 : Index := Scalar.indexCast v415
  let c0_i32_228 : BitVec 32 := 0#32
  let v459 : Index := Scalar.indexCast c0_i32_228
  let c112_229 : Index := 112#32
  ![v458.toNat, 0, 112]
def k0_off128 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v464 : Index := Scalar.indexCast v415
  let c0_i32_230 : BitVec 32 := 0#32
  let v465 : Index := Scalar.indexCast c0_i32_230
  let c128_231 : Index := 128#32
  ![v464.toNat, 0, 128]
def k0_off129 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v470 : Index := Scalar.indexCast v415
  let c0_i32_232 : BitVec 32 := 0#32
  let v471 : Index := Scalar.indexCast c0_i32_232
  let c144_233 : Index := 144#32
  ![v470.toNat, 0, 144]
def k0_off130 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v476 : Index := Scalar.indexCast v415
  let c0_i32_234 : BitVec 32 := 0#32
  let v477 : Index := Scalar.indexCast c0_i32_234
  let c160_235 : Index := 160#32
  ![v476.toNat, 0, 160]
def k0_off131 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v482 : Index := Scalar.indexCast v415
  let c0_i32_236 : BitVec 32 := 0#32
  let v483 : Index := Scalar.indexCast c0_i32_236
  let c176_237 : Index := 176#32
  ![v482.toNat, 0, 176]
def k0_off132 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v488 : Index := Scalar.indexCast v415
  let c0_i32_238 : BitVec 32 := 0#32
  let v489 : Index := Scalar.indexCast c0_i32_238
  let c192_239 : Index := 192#32
  ![v488.toNat, 0, 192]
def k0_off133 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v494 : Index := Scalar.indexCast v415
  let c0_i32_240 : BitVec 32 := 0#32
  let v495 : Index := Scalar.indexCast c0_i32_240
  let c208_241 : Index := 208#32
  ![v494.toNat, 0, 208]
def k0_off134 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v500 : Index := Scalar.indexCast v415
  let c0_i32_242 : BitVec 32 := 0#32
  let v501 : Index := Scalar.indexCast c0_i32_242
  let c224_243 : Index := 224#32
  ![v500.toNat, 0, 224]
def k0_off135 (v4 : BitVec 32) (k0_t6 : Fin (k0_t6_loop v4).trips) (k0_t10 : Fin (k0_t10_loop v4 k0_t6).trips) : Fin 3 → Nat :=
  let c0_i32_207 : BitVec 32 := 0#32
  let c0_i32_208 : BitVec 32 := 0#32
  let c0_i32_201 : BitVec 32 := 0#32
  let c128_i32_200 : BitVec 32 := 128#32
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c128_i32_199 : BitVec 32 := 128#32
  let v395 : BitVec 32 := Scalar.muli v391 c128_i32_199
  let v396 : BitVec 32 := Scalar.subi v4 v395
  let v397 : BitVec 32 := Scalar.minsi c128_i32_200 v396
  let v398 : BitVec 32 := Scalar.maxsi c0_i32_201 v397
  let c0_i32_202 : BitVec 32 := 0#32
  let v399 : BitVec 32 := Scalar.subi v398 c0_i32_202
  let c1_i32_203 : BitVec 32 := 1#32
  let c1_i32_204 : BitVec 32 := 1#32
  let v400 : BitVec 32 := Scalar.subi c1_i32_203 c1_i32_204
  let v401 : BitVec 32 := Scalar.addi v399 v400
  let c1_i32_205 : BitVec 32 := 1#32
  let v402 : BitVec 32 := Scalar.divsi v401 c1_i32_205
  let v403 : BitVec 32 := Scalar.subi v402 c0_i32_208
  let c1_i32_209 : BitVec 32 := 1#32
  let v405 : BitVec 32 := Scalar.divsi v403 c1_i32_209
  let v406 : BitVec 32 := Scalar.muli v405 c1_i32_209
  let v407 : BitVec 32 := Scalar.addi c0_i32_208 v406
  let c1_i32_211 : BitVec 32 := 1#32
  let arg44 : BitVec 32 := Scf.iv v407 c1_i32_211 k0_t10
  let c1_i32_206 : BitVec 32 := 1#32
  let v414 : BitVec 32 := Scalar.muli arg44 c1_i32_206
  let v415 : BitVec 32 := Scalar.addi c0_i32_207 v414
  let v506 : Index := Scalar.indexCast v415
  let c0_i32_244 : BitVec 32 := 0#32
  let v507 : Index := Scalar.indexCast c0_i32_244
  let c240_245 : Index := 240#32
  ![v506.toNat, 0, 240]
def k0_off136 (i : grid0.Coords) (v4 : BitVec 32) (k0_t6 : Fin (k0_t6_loop v4).trips) : Fin 3 → Nat :=
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c2_i32_214 : BitVec 32 := 2#32
  let v414 : BitVec 32 := Scalar.addi v391 c2_i32_214
  let c128_i32_215 : BitVec 32 := 128#32
  let v415 : BitVec 32 := Scalar.muli v414 c128_i32_215
  let c3968_i32_216 : BitVec 32 := 3968#32
  let v416 : BitVec 32 := Scalar.minsi v415 c3968_i32_216
  let arg1 : BitVec 32 := BitVec.ofNat 32 (i 1).val
  let arg0 : BitVec 32 := BitVec.ofNat 32 (i 0).val
  let c256_i32_217 : BitVec 32 := 256#32
  let v417 : BitVec 32 := Scalar.muli arg0 c256_i32_217
  ![v416.toNat, arg1.toNat, v417.toNat]
def k0_cond4 (v4 : BitVec 32) (k0_t6 : Fin (k0_t6_loop v4).trips) : BitVec 1 :=
  let c2_i32_194 : BitVec 32 := 2#32
  let c0_i32_24 : BitVec 32 := 0#32
  let c127_i32 : BitVec 32 := 127#32
  let v5 : BitVec 32 := Scalar.addi v4 c127_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c128_i32 : BitVec 32 := 128#32
  let c0_i32_1 : BitVec 32 := 0#32
  let v12 : BitVec 1 := Scalar.cmpi .sgt c128_i32 c0_i32_1
  let v13 : BitVec 32 := Scalar.extui v12
  let c0_i32_2 : BitVec 32 := 0#32
  let v14 : BitVec 1 := Scalar.cmpi .slt c128_i32 c0_i32_2
  let v15 : BitVec 32 := Scalar.extui v14
  let v16 : BitVec 32 := Scalar.subi v13 v15
  let v17 : BitVec 1 := Scalar.cmpi .ne v11 v16
  let v18 : BitVec 32 := Scalar.remsi v5 c128_i32
  let c0_i32_3 : BitVec 32 := 0#32
  let v19 : BitVec 1 := Scalar.cmpi .ne v18 c0_i32_3
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c1_i32_4 : BitVec 32 := 1#32
  let v23 : BitVec 32 := Scalar.addi v22 c1_i32_4
  let c0_i32_5 : BitVec 32 := 0#32
  let v25 : BitVec 1 := Scalar.cmpi .sgt v23 c0_i32_5
  let v26 : BitVec 32 := Scalar.extui v25
  let c0_i32_6 : BitVec 32 := 0#32
  let v27 : BitVec 1 := Scalar.cmpi .slt v23 c0_i32_6
  let v28 : BitVec 32 := Scalar.extui v27
  let v29 : BitVec 32 := Scalar.subi v26 v28
  let c2_i32 : BitVec 32 := 2#32
  let c0_i32_7 : BitVec 32 := 0#32
  let v30 : BitVec 1 := Scalar.cmpi .sgt c2_i32 c0_i32_7
  let v31 : BitVec 32 := Scalar.extui v30
  let c0_i32_8 : BitVec 32 := 0#32
  let v32 : BitVec 1 := Scalar.cmpi .slt c2_i32 c0_i32_8
  let v33 : BitVec 32 := Scalar.extui v32
  let v34 : BitVec 32 := Scalar.subi v31 v33
  let v35 : BitVec 1 := Scalar.cmpi .ne v29 v34
  let v36 : BitVec 32 := Scalar.remsi v23 c2_i32
  let c0_i32_9 : BitVec 32 := 0#32
  let v37 : BitVec 1 := Scalar.cmpi .ne v36 c0_i32_9
  let v38 : BitVec 1 := Scalar.andi v35 v37
  let v24 : BitVec 32 := Scalar.divsi v23 c2_i32
  let c1_i32_10 : BitVec 32 := 1#32
  let v39 : BitVec 32 := Scalar.subi v24 c1_i32_10
  let v40 : BitVec 32 := Scalar.select v38 v39 v24
  let c2_i32_11 : BitVec 32 := 2#32
  let v41 : BitVec 32 := Scalar.muli v40 c2_i32_11
  let c0_i32_18 : BitVec 32 := 0#32
  let v53 : BitVec 1 := Scalar.cmpi .sgt v41 c0_i32_18
  let v54 : BitVec 32 := Scalar.extui v53
  let c0_i32_19 : BitVec 32 := 0#32
  let v55 : BitVec 1 := Scalar.cmpi .slt v41 c0_i32_19
  let v56 : BitVec 32 := Scalar.extui v55
  let v57 : BitVec 32 := Scalar.subi v54 v56
  let c2_i32_17 : BitVec 32 := 2#32
  let c0_i32_20 : BitVec 32 := 0#32
  let v58 : BitVec 1 := Scalar.cmpi .sgt c2_i32_17 c0_i32_20
  let v59 : BitVec 32 := Scalar.extui v58
  let c0_i32_21 : BitVec 32 := 0#32
  let v60 : BitVec 1 := Scalar.cmpi .slt c2_i32_17 c0_i32_21
  let v61 : BitVec 32 := Scalar.extui v60
  let v62 : BitVec 32 := Scalar.subi v59 v61
  let v63 : BitVec 1 := Scalar.cmpi .ne v57 v62
  let v64 : BitVec 32 := Scalar.remsi v41 c2_i32_17
  let c0_i32_22 : BitVec 32 := 0#32
  let v65 : BitVec 1 := Scalar.cmpi .ne v64 c0_i32_22
  let v66 : BitVec 1 := Scalar.andi v63 v65
  let v52 : BitVec 32 := Scalar.divsi v41 c2_i32_17
  let c1_i32_23 : BitVec 32 := 1#32
  let v67 : BitVec 32 := Scalar.subi v52 c1_i32_23
  let v68 : BitVec 32 := Scalar.select v66 v67 v52
  let v69 : BitVec 32 := Scalar.subi v68 c0_i32_24
  let c1_i32_25 : BitVec 32 := 1#32
  let v71 : BitVec 32 := Scalar.divsi v69 c1_i32_25
  let v72 : BitVec 32 := Scalar.muli v71 c1_i32_25
  let v73 : BitVec 32 := Scalar.addi c0_i32_24 v72
  let c1_i32_27 : BitVec 32 := 1#32
  let arg11 : BitVec 32 := Scf.iv v73 c1_i32_27 k0_t6
  let v390 : BitVec 32 := Scalar.muli c2_i32_194 arg11
  let c1_i32_195 : BitVec 32 := 1#32
  let v391 : BitVec 32 := Scalar.addi v390 c1_i32_195
  let c2_i32_212 : BitVec 32 := 2#32
  let v410 : BitVec 32 := Scalar.addi v391 c2_i32_212
  let v411 : BitVec 1 := Scalar.cmpi .slt v410 v41
  let v412 : BitVec 32 := Scalar.extui v411
  let c0_i32_213 : BitVec 32 := 0#32
  let v413 : BitVec 1 := Scalar.cmpi .ne v412 c0_i32_213
  v413

def k0_off137 (i : grid0.Coords) (v4 : BitVec 32) : Fin 3 → Nat :=
  let c1_i32_28 : BitVec 32 := 1#32
  let v78 : BitVec 32 := Scalar.subi v4 c1_i32_28
  let arg1 : BitVec 32 := BitVec.ofNat 32 (i 1).val
  let arg0 : BitVec 32 := BitVec.ofNat 32 (i 0).val
  let c256_i32_29 : BitVec 32 := 256#32
  let v79 : BitVec 32 := Scalar.muli arg0 c256_i32_29
  ![v78.toNat, arg1.toNat, v79.toNat]

def k0_chk1_0 (i : grid0.Coords) (v4 : BitVec 32) : Prop :=
  ((k0_t1_loop v4).OK) ∧
  (∀ k0_t1 : Fin (k0_t1_loop v4).trips, (k0_t2_loop v4 k0_t1).OK) ∧
  (∀ (k0_t1 : Fin (k0_t1_loop v4).trips) (k0_t2 : Fin (k0_t2_loop v4 k0_t1).trips), ∀ a, (k0_off4 v4 k0_t1 k0_t2) a + S1x1x16.size a ≤ S128x1x256.size a) ∧
  (∀ (k0_t1 : Fin (k0_t1_loop v4).trips) (k0_t2 : Fin (k0_t2_loop v4 k0_t1).trips), ∀ a, (k0_off5 v4 k0_t1 k0_t2) a + S1x1x16.size a ≤ S128x1x256.size a) ∧
  (∀ (k0_t1 : Fin (k0_t1_loop v4).trips) (k0_t2 : Fin (k0_t2_loop v4 k0_t1).trips), ∀ a, (k0_off6 v4 k0_t1 k0_t2) a + S1x1x16.size a ≤ S128x1x256.size a) ∧
  (∀ (k0_t1 : Fin (k0_t1_loop v4).trips) (k0_t2 : Fin (k0_t2_loop v4 k0_t1).trips), ∀ a, (k0_off7 v4 k0_t1 k0_t2) a + S1x1x16.size a ≤ S128x1x256.size a) ∧
  (∀ (k0_t1 : Fin (k0_t1_loop v4).trips) (k0_t2 : Fin (k0_t2_loop v4 k0_t1).trips), ∀ a, (k0_off8 v4 k0_t1 k0_t2) a + S1x1x16.size a ≤ S128x1x256.size a) ∧
  (∀ (k0_t1 : Fin (k0_t1_loop v4).trips) (k0_t2 : Fin (k0_t2_loop v4 k0_t1).trips), ∀ a, (k0_off9 v4 k0_t1 k0_t2) a + S1x1x16.size a ≤ S128x1x256.size a) ∧
  (∀ (k0_t1 : Fin (k0_t1_loop v4).trips) (k0_t2 : Fin (k0_t2_loop v4 k0_t1).trips), ∀ a, (k0_off10 v4 k0_t1 k0_t2) a + S1x1x16.size a ≤ S128x1x256.size a) ∧
  (∀ (k0_t1 : Fin (k0_t1_loop v4).trips) (k0_t2 : Fin (k0_t2_loop v4 k0_t1).trips), ∀ a, (k0_off11 v4 k0_t1 k0_t2) a + S1x1x16.size a ≤ S128x1x256.size a) ∧
  (∀ (k0_t1 : Fin (k0_t1_loop v4).trips) (k0_t2 : Fin (k0_t2_loop v4 k0_t1).trips), ∀ a, (k0_off12 v4 k0_t1 k0_t2) a + S1x1x16.size a ≤ S128x1x256.size a) ∧
  (∀ (k0_t1 : Fin (k0_t1_loop v4).trips) (k0_t2 : Fin (k0_t2_loop v4 k0_t1).trips), ∀ a, (k0_off13 v4 k0_t1 k0_t2) a + S1x1x16.size a ≤ S128x1x256.size a) ∧
  (∀ (k0_t1 : Fin (k0_t1_loop v4).trips) (k0_t2 : Fin (k0_t2_loop v4 k0_t1).trips), ∀ a, (k0_off14 v4 k0_t1 k0_t2) a + S1x1x16.size a ≤ S128x1x256.size a) ∧
  (∀ (k0_t1 : Fin (k0_t1_loop v4).trips) (k0_t2 : Fin (k0_t2_loop v4 k0_t1).trips), ∀ a, (k0_off15 v4 k0_t1 k0_t2) a + S1x1x16.size a ≤ S128x1x256.size a) ∧
  (∀ (k0_t1 : Fin (k0_t1_loop v4).trips) (k0_t2 : Fin (k0_t2_loop v4 k0_t1).trips), ∀ a, (k0_off16 v4 k0_t1 k0_t2) a + S1x1x16.size a ≤ S128x1x256.size a) ∧
  (∀ (k0_t1 : Fin (k0_t1_loop v4).trips) (k0_t2 : Fin (k0_t2_loop v4 k0_t1).trips), ∀ a, (k0_off17 v4 k0_t1 k0_t2) a + S1x1x16.size a ≤ S128x1x256.size a) ∧
  (∀ (k0_t1 : Fin (k0_t1_loop v4).trips) (k0_t2 : Fin (k0_t2_loop v4 k0_t1).trips), ∀ a, (k0_off18 v4 k0_t1 k0_t2) a + S1x1x16.size a ≤ S128x1x256.size a) ∧
  (∀ (k0_t1 : Fin (k0_t1_loop v4).trips) (k0_t2 : Fin (k0_t2_loop v4 k0_t1).trips), ∀ a, (k0_off19 v4 k0_t1 k0_t2) a + S1x1x16.size a ≤ S128x1x256.size a) ∧
  (∀ k0_t1 : Fin (k0_t1_loop v4).trips, (k0_t3_loop v4 k0_t1).OK) ∧
  (∀ (k0_t1 : Fin (k0_t1_loop v4).trips) (k0_t3 : Fin (k0_t3_loop v4 k0_t1).trips), ∀ a, (k0_off20 v4 k0_t1 k0_t3) a + S1x1x16.size a ≤ S128x1x256.size a) ∧
  (∀ (k0_t1 : Fin (k0_t1_loop v4).trips) (k0_t3 : Fin (k0_t3_loop v4 k0_t1).trips), ∀ a, (k0_off21 v4 k0_t1 k0_t3) a + S1x1x16.size a ≤ S128x1x256.size a) ∧
  (∀ (k0_t1 : Fin (k0_t1_loop v4).trips) (k0_t3 : Fin (k0_t3_loop v4 k0_t1).trips), ∀ a, (k0_off22 v4 k0_t1 k0_t3) a + S1x1x16.size a ≤ S128x1x256.size a) ∧
  (∀ (k0_t1 : Fin (k0_t1_loop v4).trips) (k0_t3 : Fin (k0_t3_loop v4 k0_t1).trips), ∀ a, (k0_off23 v4 k0_t1 k0_t3) a + S1x1x16.size a ≤ S128x1x256.size a) ∧
  (∀ (k0_t1 : Fin (k0_t1_loop v4).trips) (k0_t3 : Fin (k0_t3_loop v4 k0_t1).trips), ∀ a, (k0_off24 v4 k0_t1 k0_t3) a + S1x1x16.size a ≤ S128x1x256.size a) ∧
  (∀ (k0_t1 : Fin (k0_t1_loop v4).trips) (k0_t3 : Fin (k0_t3_loop v4 k0_t1).trips), ∀ a, (k0_off25 v4 k0_t1 k0_t3) a + S1x1x16.size a ≤ S128x1x256.size a) ∧
  (∀ (k0_t1 : Fin (k0_t1_loop v4).trips) (k0_t3 : Fin (k0_t3_loop v4 k0_t1).trips), ∀ a, (k0_off26 v4 k0_t1 k0_t3) a + S1x1x16.size a ≤ S128x1x256.size a) ∧
  (∀ (k0_t1 : Fin (k0_t1_loop v4).trips) (k0_t3 : Fin (k0_t3_loop v4 k0_t1).trips), ∀ a, (k0_off27 v4 k0_t1 k0_t3) a + S1x1x16.size a ≤ S128x1x256.size a) ∧
  (∀ (k0_t1 : Fin (k0_t1_loop v4).trips) (k0_t3 : Fin (k0_t3_loop v4 k0_t1).trips), ∀ a, (k0_off28 v4 k0_t1 k0_t3) a + S1x1x16.size a ≤ S128x1x256.size a) ∧
  (∀ (k0_t1 : Fin (k0_t1_loop v4).trips) (k0_t3 : Fin (k0_t3_loop v4 k0_t1).trips), ∀ a, (k0_off29 v4 k0_t1 k0_t3) a + S1x1x16.size a ≤ S128x1x256.size a) ∧
  (∀ (k0_t1 : Fin (k0_t1_loop v4).trips) (k0_t3 : Fin (k0_t3_loop v4 k0_t1).trips), ∀ a, (k0_off30 v4 k0_t1 k0_t3) a + S1x1x16.size a ≤ S128x1x256.size a) ∧
  (∀ (k0_t1 : Fin (k0_t1_loop v4).trips) (k0_t3 : Fin (k0_t3_loop v4 k0_t1).trips), ∀ a, (k0_off31 v4 k0_t1 k0_t3) a + S1x1x16.size a ≤ S128x1x256.size a) ∧
  (∀ (k0_t1 : Fin (k0_t1_loop v4).trips) (k0_t3 : Fin (k0_t3_loop v4 k0_t1).trips), ∀ a, (k0_off32 v4 k0_t1 k0_t3) a + S1x1x16.size a ≤ S128x1x256.size a)
def k0_chk1_1 (i : grid0.Coords) (v4 : BitVec 32) : Prop :=
  (∀ (k0_t1 : Fin (k0_t1_loop v4).trips) (k0_t3 : Fin (k0_t3_loop v4 k0_t1).trips), ∀ a, (k0_off33 v4 k0_t1 k0_t3) a + S1x1x16.size a ≤ S128x1x256.size a) ∧
  (∀ (k0_t1 : Fin (k0_t1_loop v4).trips) (k0_t3 : Fin (k0_t3_loop v4 k0_t1).trips), ∀ a, (k0_off34 v4 k0_t1 k0_t3) a + S1x1x16.size a ≤ S128x1x256.size a) ∧
  (∀ (k0_t1 : Fin (k0_t1_loop v4).trips) (k0_t3 : Fin (k0_t3_loop v4 k0_t1).trips), ∀ a, (k0_off35 v4 k0_t1 k0_t3) a + S1x1x16.size a ≤ S128x1x256.size a) ∧
  (∀ k0_t1 : Fin (k0_t1_loop v4).trips, ∀ (k0_h1 : k0_cond1 v4 k0_t1 = 1#1), ∀ a, (k0_off36 i v4 k0_t1) a + S128x1x256.size a ≤ S4096x16x512.size a) ∧
  (∀ k0_t1 : Fin (k0_t1_loop v4).trips, (k0_t4_loop v4 k0_t1).OK) ∧
  (∀ (k0_t1 : Fin (k0_t1_loop v4).trips) (k0_t4 : Fin (k0_t4_loop v4 k0_t1).trips), ∀ a, (k0_off37 v4 k0_t1 k0_t4) a + S1x1x16.size a ≤ S128x1x256.size a) ∧
  (∀ (k0_t1 : Fin (k0_t1_loop v4).trips) (k0_t4 : Fin (k0_t4_loop v4 k0_t1).trips), ∀ a, (k0_off38 v4 k0_t1 k0_t4) a + S1x1x16.size a ≤ S128x1x256.size a) ∧
  (∀ (k0_t1 : Fin (k0_t1_loop v4).trips) (k0_t4 : Fin (k0_t4_loop v4 k0_t1).trips), ∀ a, (k0_off39 v4 k0_t1 k0_t4) a + S1x1x16.size a ≤ S128x1x256.size a) ∧
  (∀ (k0_t1 : Fin (k0_t1_loop v4).trips) (k0_t4 : Fin (k0_t4_loop v4 k0_t1).trips), ∀ a, (k0_off40 v4 k0_t1 k0_t4) a + S1x1x16.size a ≤ S128x1x256.size a) ∧
  (∀ (k0_t1 : Fin (k0_t1_loop v4).trips) (k0_t4 : Fin (k0_t4_loop v4 k0_t1).trips), ∀ a, (k0_off41 v4 k0_t1 k0_t4) a + S1x1x16.size a ≤ S128x1x256.size a) ∧
  (∀ (k0_t1 : Fin (k0_t1_loop v4).trips) (k0_t4 : Fin (k0_t4_loop v4 k0_t1).trips), ∀ a, (k0_off42 v4 k0_t1 k0_t4) a + S1x1x16.size a ≤ S128x1x256.size a) ∧
  (∀ (k0_t1 : Fin (k0_t1_loop v4).trips) (k0_t4 : Fin (k0_t4_loop v4 k0_t1).trips), ∀ a, (k0_off43 v4 k0_t1 k0_t4) a + S1x1x16.size a ≤ S128x1x256.size a) ∧
  (∀ (k0_t1 : Fin (k0_t1_loop v4).trips) (k0_t4 : Fin (k0_t4_loop v4 k0_t1).trips), ∀ a, (k0_off44 v4 k0_t1 k0_t4) a + S1x1x16.size a ≤ S128x1x256.size a) ∧
  (∀ (k0_t1 : Fin (k0_t1_loop v4).trips) (k0_t4 : Fin (k0_t4_loop v4 k0_t1).trips), ∀ a, (k0_off45 v4 k0_t1 k0_t4) a + S1x1x16.size a ≤ S128x1x256.size a) ∧
  (∀ (k0_t1 : Fin (k0_t1_loop v4).trips) (k0_t4 : Fin (k0_t4_loop v4 k0_t1).trips), ∀ a, (k0_off46 v4 k0_t1 k0_t4) a + S1x1x16.size a ≤ S128x1x256.size a) ∧
  (∀ (k0_t1 : Fin (k0_t1_loop v4).trips) (k0_t4 : Fin (k0_t4_loop v4 k0_t1).trips), ∀ a, (k0_off47 v4 k0_t1 k0_t4) a + S1x1x16.size a ≤ S128x1x256.size a) ∧
  (∀ (k0_t1 : Fin (k0_t1_loop v4).trips) (k0_t4 : Fin (k0_t4_loop v4 k0_t1).trips), ∀ a, (k0_off48 v4 k0_t1 k0_t4) a + S1x1x16.size a ≤ S128x1x256.size a) ∧
  (∀ (k0_t1 : Fin (k0_t1_loop v4).trips) (k0_t4 : Fin (k0_t4_loop v4 k0_t1).trips), ∀ a, (k0_off49 v4 k0_t1 k0_t4) a + S1x1x16.size a ≤ S128x1x256.size a) ∧
  (∀ (k0_t1 : Fin (k0_t1_loop v4).trips) (k0_t4 : Fin (k0_t4_loop v4 k0_t1).trips), ∀ a, (k0_off50 v4 k0_t1 k0_t4) a + S1x1x16.size a ≤ S128x1x256.size a) ∧
  (∀ (k0_t1 : Fin (k0_t1_loop v4).trips) (k0_t4 : Fin (k0_t4_loop v4 k0_t1).trips), ∀ a, (k0_off51 v4 k0_t1 k0_t4) a + S1x1x16.size a ≤ S128x1x256.size a) ∧
  (∀ (k0_t1 : Fin (k0_t1_loop v4).trips) (k0_t4 : Fin (k0_t4_loop v4 k0_t1).trips), ∀ a, (k0_off52 v4 k0_t1 k0_t4) a + S1x1x16.size a ≤ S128x1x256.size a) ∧
  (∀ k0_t1 : Fin (k0_t1_loop v4).trips, (k0_t5_loop v4 k0_t1).OK) ∧
  (∀ (k0_t1 : Fin (k0_t1_loop v4).trips) (k0_t5 : Fin (k0_t5_loop v4 k0_t1).trips), ∀ a, (k0_off53 v4 k0_t1 k0_t5) a + S1x1x16.size a ≤ S128x1x256.size a) ∧
  (∀ (k0_t1 : Fin (k0_t1_loop v4).trips) (k0_t5 : Fin (k0_t5_loop v4 k0_t1).trips), ∀ a, (k0_off54 v4 k0_t1 k0_t5) a + S1x1x16.size a ≤ S128x1x256.size a) ∧
  (∀ (k0_t1 : Fin (k0_t1_loop v4).trips) (k0_t5 : Fin (k0_t5_loop v4 k0_t1).trips), ∀ a, (k0_off55 v4 k0_t1 k0_t5) a + S1x1x16.size a ≤ S128x1x256.size a) ∧
  (∀ (k0_t1 : Fin (k0_t1_loop v4).trips) (k0_t5 : Fin (k0_t5_loop v4 k0_t1).trips), ∀ a, (k0_off56 v4 k0_t1 k0_t5) a + S1x1x16.size a ≤ S128x1x256.size a) ∧
  (∀ (k0_t1 : Fin (k0_t1_loop v4).trips) (k0_t5 : Fin (k0_t5_loop v4 k0_t1).trips), ∀ a, (k0_off57 v4 k0_t1 k0_t5) a + S1x1x16.size a ≤ S128x1x256.size a) ∧
  (∀ (k0_t1 : Fin (k0_t1_loop v4).trips) (k0_t5 : Fin (k0_t5_loop v4 k0_t1).trips), ∀ a, (k0_off58 v4 k0_t1 k0_t5) a + S1x1x16.size a ≤ S128x1x256.size a) ∧
  (∀ (k0_t1 : Fin (k0_t1_loop v4).trips) (k0_t5 : Fin (k0_t5_loop v4 k0_t1).trips), ∀ a, (k0_off59 v4 k0_t1 k0_t5) a + S1x1x16.size a ≤ S128x1x256.size a) ∧
  (∀ (k0_t1 : Fin (k0_t1_loop v4).trips) (k0_t5 : Fin (k0_t5_loop v4 k0_t1).trips), ∀ a, (k0_off60 v4 k0_t1 k0_t5) a + S1x1x16.size a ≤ S128x1x256.size a) ∧
  (∀ (k0_t1 : Fin (k0_t1_loop v4).trips) (k0_t5 : Fin (k0_t5_loop v4 k0_t1).trips), ∀ a, (k0_off61 v4 k0_t1 k0_t5) a + S1x1x16.size a ≤ S128x1x256.size a) ∧
  (∀ (k0_t1 : Fin (k0_t1_loop v4).trips) (k0_t5 : Fin (k0_t5_loop v4 k0_t1).trips), ∀ a, (k0_off62 v4 k0_t1 k0_t5) a + S1x1x16.size a ≤ S128x1x256.size a)
def k0_chk1_2 (i : grid0.Coords) (v4 : BitVec 32) : Prop :=
  (∀ (k0_t1 : Fin (k0_t1_loop v4).trips) (k0_t5 : Fin (k0_t5_loop v4 k0_t1).trips), ∀ a, (k0_off63 v4 k0_t1 k0_t5) a + S1x1x16.size a ≤ S128x1x256.size a) ∧
  (∀ (k0_t1 : Fin (k0_t1_loop v4).trips) (k0_t5 : Fin (k0_t5_loop v4 k0_t1).trips), ∀ a, (k0_off64 v4 k0_t1 k0_t5) a + S1x1x16.size a ≤ S128x1x256.size a) ∧
  (∀ (k0_t1 : Fin (k0_t1_loop v4).trips) (k0_t5 : Fin (k0_t5_loop v4 k0_t1).trips), ∀ a, (k0_off65 v4 k0_t1 k0_t5) a + S1x1x16.size a ≤ S128x1x256.size a) ∧
  (∀ (k0_t1 : Fin (k0_t1_loop v4).trips) (k0_t5 : Fin (k0_t5_loop v4 k0_t1).trips), ∀ a, (k0_off66 v4 k0_t1 k0_t5) a + S1x1x16.size a ≤ S128x1x256.size a) ∧
  (∀ (k0_t1 : Fin (k0_t1_loop v4).trips) (k0_t5 : Fin (k0_t5_loop v4 k0_t1).trips), ∀ a, (k0_off67 v4 k0_t1 k0_t5) a + S1x1x16.size a ≤ S128x1x256.size a) ∧
  (∀ (k0_t1 : Fin (k0_t1_loop v4).trips) (k0_t5 : Fin (k0_t5_loop v4 k0_t1).trips), ∀ a, (k0_off68 v4 k0_t1 k0_t5) a + S1x1x16.size a ≤ S128x1x256.size a) ∧
  (∀ k0_t1 : Fin (k0_t1_loop v4).trips, ∀ (k0_h2 : k0_cond2 v4 k0_t1 = 1#1), ∀ a, (k0_off69 i v4 k0_t1) a + S128x1x256.size a ≤ S4096x16x512.size a) ∧
  ((k0_t6_loop v4).OK) ∧
  (∀ k0_t6 : Fin (k0_t6_loop v4).trips, (k0_t7_loop v4 k0_t6).OK) ∧
  (∀ (k0_t6 : Fin (k0_t6_loop v4).trips) (k0_t7 : Fin (k0_t7_loop v4 k0_t6).trips), ∀ a, (k0_off71 v4 k0_t6 k0_t7) a + S1x1x16.size a ≤ S128x1x256.size a) ∧
  (∀ (k0_t6 : Fin (k0_t6_loop v4).trips) (k0_t7 : Fin (k0_t7_loop v4 k0_t6).trips), ∀ a, (k0_off72 v4 k0_t6 k0_t7) a + S1x1x16.size a ≤ S128x1x256.size a) ∧
  (∀ (k0_t6 : Fin (k0_t6_loop v4).trips) (k0_t7 : Fin (k0_t7_loop v4 k0_t6).trips), ∀ a, (k0_off73 v4 k0_t6 k0_t7) a + S1x1x16.size a ≤ S128x1x256.size a) ∧
  (∀ (k0_t6 : Fin (k0_t6_loop v4).trips) (k0_t7 : Fin (k0_t7_loop v4 k0_t6).trips), ∀ a, (k0_off74 v4 k0_t6 k0_t7) a + S1x1x16.size a ≤ S128x1x256.size a) ∧
  (∀ (k0_t6 : Fin (k0_t6_loop v4).trips) (k0_t7 : Fin (k0_t7_loop v4 k0_t6).trips), ∀ a, (k0_off75 v4 k0_t6 k0_t7) a + S1x1x16.size a ≤ S128x1x256.size a) ∧
  (∀ (k0_t6 : Fin (k0_t6_loop v4).trips) (k0_t7 : Fin (k0_t7_loop v4 k0_t6).trips), ∀ a, (k0_off76 v4 k0_t6 k0_t7) a + S1x1x16.size a ≤ S128x1x256.size a) ∧
  (∀ (k0_t6 : Fin (k0_t6_loop v4).trips) (k0_t7 : Fin (k0_t7_loop v4 k0_t6).trips), ∀ a, (k0_off77 v4 k0_t6 k0_t7) a + S1x1x16.size a ≤ S128x1x256.size a) ∧
  (∀ (k0_t6 : Fin (k0_t6_loop v4).trips) (k0_t7 : Fin (k0_t7_loop v4 k0_t6).trips), ∀ a, (k0_off78 v4 k0_t6 k0_t7) a + S1x1x16.size a ≤ S128x1x256.size a) ∧
  (∀ (k0_t6 : Fin (k0_t6_loop v4).trips) (k0_t7 : Fin (k0_t7_loop v4 k0_t6).trips), ∀ a, (k0_off79 v4 k0_t6 k0_t7) a + S1x1x16.size a ≤ S128x1x256.size a) ∧
  (∀ (k0_t6 : Fin (k0_t6_loop v4).trips) (k0_t7 : Fin (k0_t7_loop v4 k0_t6).trips), ∀ a, (k0_off80 v4 k0_t6 k0_t7) a + S1x1x16.size a ≤ S128x1x256.size a) ∧
  (∀ (k0_t6 : Fin (k0_t6_loop v4).trips) (k0_t7 : Fin (k0_t7_loop v4 k0_t6).trips), ∀ a, (k0_off81 v4 k0_t6 k0_t7) a + S1x1x16.size a ≤ S128x1x256.size a) ∧
  (∀ (k0_t6 : Fin (k0_t6_loop v4).trips) (k0_t7 : Fin (k0_t7_loop v4 k0_t6).trips), ∀ a, (k0_off82 v4 k0_t6 k0_t7) a + S1x1x16.size a ≤ S128x1x256.size a) ∧
  (∀ (k0_t6 : Fin (k0_t6_loop v4).trips) (k0_t7 : Fin (k0_t7_loop v4 k0_t6).trips), ∀ a, (k0_off83 v4 k0_t6 k0_t7) a + S1x1x16.size a ≤ S128x1x256.size a) ∧
  (∀ (k0_t6 : Fin (k0_t6_loop v4).trips) (k0_t7 : Fin (k0_t7_loop v4 k0_t6).trips), ∀ a, (k0_off84 v4 k0_t6 k0_t7) a + S1x1x16.size a ≤ S128x1x256.size a) ∧
  (∀ (k0_t6 : Fin (k0_t6_loop v4).trips) (k0_t7 : Fin (k0_t7_loop v4 k0_t6).trips), ∀ a, (k0_off85 v4 k0_t6 k0_t7) a + S1x1x16.size a ≤ S128x1x256.size a) ∧
  (∀ (k0_t6 : Fin (k0_t6_loop v4).trips) (k0_t7 : Fin (k0_t7_loop v4 k0_t6).trips), ∀ a, (k0_off86 v4 k0_t6 k0_t7) a + S1x1x16.size a ≤ S128x1x256.size a) ∧
  (∀ k0_t6 : Fin (k0_t6_loop v4).trips, (k0_t8_loop v4 k0_t6).OK) ∧
  (∀ (k0_t6 : Fin (k0_t6_loop v4).trips) (k0_t8 : Fin (k0_t8_loop v4 k0_t6).trips), ∀ a, (k0_off87 v4 k0_t6 k0_t8) a + S1x1x16.size a ≤ S128x1x256.size a) ∧
  (∀ (k0_t6 : Fin (k0_t6_loop v4).trips) (k0_t8 : Fin (k0_t8_loop v4 k0_t6).trips), ∀ a, (k0_off88 v4 k0_t6 k0_t8) a + S1x1x16.size a ≤ S128x1x256.size a) ∧
  (∀ (k0_t6 : Fin (k0_t6_loop v4).trips) (k0_t8 : Fin (k0_t8_loop v4 k0_t6).trips), ∀ a, (k0_off89 v4 k0_t6 k0_t8) a + S1x1x16.size a ≤ S128x1x256.size a) ∧
  (∀ (k0_t6 : Fin (k0_t6_loop v4).trips) (k0_t8 : Fin (k0_t8_loop v4 k0_t6).trips), ∀ a, (k0_off90 v4 k0_t6 k0_t8) a + S1x1x16.size a ≤ S128x1x256.size a) ∧
  (∀ (k0_t6 : Fin (k0_t6_loop v4).trips) (k0_t8 : Fin (k0_t8_loop v4 k0_t6).trips), ∀ a, (k0_off91 v4 k0_t6 k0_t8) a + S1x1x16.size a ≤ S128x1x256.size a) ∧
  (∀ (k0_t6 : Fin (k0_t6_loop v4).trips) (k0_t8 : Fin (k0_t8_loop v4 k0_t6).trips), ∀ a, (k0_off92 v4 k0_t6 k0_t8) a + S1x1x16.size a ≤ S128x1x256.size a)
def k0_chk1_3 (i : grid0.Coords) (v4 : BitVec 32) : Prop :=
  (∀ (k0_t6 : Fin (k0_t6_loop v4).trips) (k0_t8 : Fin (k0_t8_loop v4 k0_t6).trips), ∀ a, (k0_off93 v4 k0_t6 k0_t8) a + S1x1x16.size a ≤ S128x1x256.size a) ∧
  (∀ (k0_t6 : Fin (k0_t6_loop v4).trips) (k0_t8 : Fin (k0_t8_loop v4 k0_t6).trips), ∀ a, (k0_off94 v4 k0_t6 k0_t8) a + S1x1x16.size a ≤ S128x1x256.size a) ∧
  (∀ (k0_t6 : Fin (k0_t6_loop v4).trips) (k0_t8 : Fin (k0_t8_loop v4 k0_t6).trips), ∀ a, (k0_off95 v4 k0_t6 k0_t8) a + S1x1x16.size a ≤ S128x1x256.size a) ∧
  (∀ (k0_t6 : Fin (k0_t6_loop v4).trips) (k0_t8 : Fin (k0_t8_loop v4 k0_t6).trips), ∀ a, (k0_off96 v4 k0_t6 k0_t8) a + S1x1x16.size a ≤ S128x1x256.size a) ∧
  (∀ (k0_t6 : Fin (k0_t6_loop v4).trips) (k0_t8 : Fin (k0_t8_loop v4 k0_t6).trips), ∀ a, (k0_off97 v4 k0_t6 k0_t8) a + S1x1x16.size a ≤ S128x1x256.size a) ∧
  (∀ (k0_t6 : Fin (k0_t6_loop v4).trips) (k0_t8 : Fin (k0_t8_loop v4 k0_t6).trips), ∀ a, (k0_off98 v4 k0_t6 k0_t8) a + S1x1x16.size a ≤ S128x1x256.size a) ∧
  (∀ (k0_t6 : Fin (k0_t6_loop v4).trips) (k0_t8 : Fin (k0_t8_loop v4 k0_t6).trips), ∀ a, (k0_off99 v4 k0_t6 k0_t8) a + S1x1x16.size a ≤ S128x1x256.size a) ∧
  (∀ (k0_t6 : Fin (k0_t6_loop v4).trips) (k0_t8 : Fin (k0_t8_loop v4 k0_t6).trips), ∀ a, (k0_off100 v4 k0_t6 k0_t8) a + S1x1x16.size a ≤ S128x1x256.size a) ∧
  (∀ (k0_t6 : Fin (k0_t6_loop v4).trips) (k0_t8 : Fin (k0_t8_loop v4 k0_t6).trips), ∀ a, (k0_off101 v4 k0_t6 k0_t8) a + S1x1x16.size a ≤ S128x1x256.size a) ∧
  (∀ (k0_t6 : Fin (k0_t6_loop v4).trips) (k0_t8 : Fin (k0_t8_loop v4 k0_t6).trips), ∀ a, (k0_off102 v4 k0_t6 k0_t8) a + S1x1x16.size a ≤ S128x1x256.size a) ∧
  (∀ k0_t6 : Fin (k0_t6_loop v4).trips, ∀ (k0_h3 : k0_cond3 v4 k0_t6 = 1#1), ∀ a, (k0_off103 i v4 k0_t6) a + S128x1x256.size a ≤ S4096x16x512.size a) ∧
  (∀ k0_t6 : Fin (k0_t6_loop v4).trips, (k0_t9_loop v4 k0_t6).OK) ∧
  (∀ (k0_t6 : Fin (k0_t6_loop v4).trips) (k0_t9 : Fin (k0_t9_loop v4 k0_t6).trips), ∀ a, (k0_off104 v4 k0_t6 k0_t9) a + S1x1x16.size a ≤ S128x1x256.size a) ∧
  (∀ (k0_t6 : Fin (k0_t6_loop v4).trips) (k0_t9 : Fin (k0_t9_loop v4 k0_t6).trips), ∀ a, (k0_off105 v4 k0_t6 k0_t9) a + S1x1x16.size a ≤ S128x1x256.size a) ∧
  (∀ (k0_t6 : Fin (k0_t6_loop v4).trips) (k0_t9 : Fin (k0_t9_loop v4 k0_t6).trips), ∀ a, (k0_off106 v4 k0_t6 k0_t9) a + S1x1x16.size a ≤ S128x1x256.size a) ∧
  (∀ (k0_t6 : Fin (k0_t6_loop v4).trips) (k0_t9 : Fin (k0_t9_loop v4 k0_t6).trips), ∀ a, (k0_off107 v4 k0_t6 k0_t9) a + S1x1x16.size a ≤ S128x1x256.size a) ∧
  (∀ (k0_t6 : Fin (k0_t6_loop v4).trips) (k0_t9 : Fin (k0_t9_loop v4 k0_t6).trips), ∀ a, (k0_off108 v4 k0_t6 k0_t9) a + S1x1x16.size a ≤ S128x1x256.size a) ∧
  (∀ (k0_t6 : Fin (k0_t6_loop v4).trips) (k0_t9 : Fin (k0_t9_loop v4 k0_t6).trips), ∀ a, (k0_off109 v4 k0_t6 k0_t9) a + S1x1x16.size a ≤ S128x1x256.size a) ∧
  (∀ (k0_t6 : Fin (k0_t6_loop v4).trips) (k0_t9 : Fin (k0_t9_loop v4 k0_t6).trips), ∀ a, (k0_off110 v4 k0_t6 k0_t9) a + S1x1x16.size a ≤ S128x1x256.size a) ∧
  (∀ (k0_t6 : Fin (k0_t6_loop v4).trips) (k0_t9 : Fin (k0_t9_loop v4 k0_t6).trips), ∀ a, (k0_off111 v4 k0_t6 k0_t9) a + S1x1x16.size a ≤ S128x1x256.size a) ∧
  (∀ (k0_t6 : Fin (k0_t6_loop v4).trips) (k0_t9 : Fin (k0_t9_loop v4 k0_t6).trips), ∀ a, (k0_off112 v4 k0_t6 k0_t9) a + S1x1x16.size a ≤ S128x1x256.size a) ∧
  (∀ (k0_t6 : Fin (k0_t6_loop v4).trips) (k0_t9 : Fin (k0_t9_loop v4 k0_t6).trips), ∀ a, (k0_off113 v4 k0_t6 k0_t9) a + S1x1x16.size a ≤ S128x1x256.size a) ∧
  (∀ (k0_t6 : Fin (k0_t6_loop v4).trips) (k0_t9 : Fin (k0_t9_loop v4 k0_t6).trips), ∀ a, (k0_off114 v4 k0_t6 k0_t9) a + S1x1x16.size a ≤ S128x1x256.size a) ∧
  (∀ (k0_t6 : Fin (k0_t6_loop v4).trips) (k0_t9 : Fin (k0_t9_loop v4 k0_t6).trips), ∀ a, (k0_off115 v4 k0_t6 k0_t9) a + S1x1x16.size a ≤ S128x1x256.size a) ∧
  (∀ (k0_t6 : Fin (k0_t6_loop v4).trips) (k0_t9 : Fin (k0_t9_loop v4 k0_t6).trips), ∀ a, (k0_off116 v4 k0_t6 k0_t9) a + S1x1x16.size a ≤ S128x1x256.size a) ∧
  (∀ (k0_t6 : Fin (k0_t6_loop v4).trips) (k0_t9 : Fin (k0_t9_loop v4 k0_t6).trips), ∀ a, (k0_off117 v4 k0_t6 k0_t9) a + S1x1x16.size a ≤ S128x1x256.size a) ∧
  (∀ (k0_t6 : Fin (k0_t6_loop v4).trips) (k0_t9 : Fin (k0_t9_loop v4 k0_t6).trips), ∀ a, (k0_off118 v4 k0_t6 k0_t9) a + S1x1x16.size a ≤ S128x1x256.size a) ∧
  (∀ (k0_t6 : Fin (k0_t6_loop v4).trips) (k0_t9 : Fin (k0_t9_loop v4 k0_t6).trips), ∀ a, (k0_off119 v4 k0_t6 k0_t9) a + S1x1x16.size a ≤ S128x1x256.size a) ∧
  (∀ k0_t6 : Fin (k0_t6_loop v4).trips, (k0_t10_loop v4 k0_t6).OK) ∧
  (∀ (k0_t6 : Fin (k0_t6_loop v4).trips) (k0_t10 : Fin (k0_t10_loop v4 k0_t6).trips), ∀ a, (k0_off120 v4 k0_t6 k0_t10) a + S1x1x16.size a ≤ S128x1x256.size a) ∧
  (∀ (k0_t6 : Fin (k0_t6_loop v4).trips) (k0_t10 : Fin (k0_t10_loop v4 k0_t6).trips), ∀ a, (k0_off121 v4 k0_t6 k0_t10) a + S1x1x16.size a ≤ S128x1x256.size a) ∧
  (∀ (k0_t6 : Fin (k0_t6_loop v4).trips) (k0_t10 : Fin (k0_t10_loop v4 k0_t6).trips), ∀ a, (k0_off122 v4 k0_t6 k0_t10) a + S1x1x16.size a ≤ S128x1x256.size a)
def k0_chk1_4 (i : grid0.Coords) (v4 : BitVec 32) : Prop :=
  (∀ (k0_t6 : Fin (k0_t6_loop v4).trips) (k0_t10 : Fin (k0_t10_loop v4 k0_t6).trips), ∀ a, (k0_off123 v4 k0_t6 k0_t10) a + S1x1x16.size a ≤ S128x1x256.size a) ∧
  (∀ (k0_t6 : Fin (k0_t6_loop v4).trips) (k0_t10 : Fin (k0_t10_loop v4 k0_t6).trips), ∀ a, (k0_off124 v4 k0_t6 k0_t10) a + S1x1x16.size a ≤ S128x1x256.size a) ∧
  (∀ (k0_t6 : Fin (k0_t6_loop v4).trips) (k0_t10 : Fin (k0_t10_loop v4 k0_t6).trips), ∀ a, (k0_off125 v4 k0_t6 k0_t10) a + S1x1x16.size a ≤ S128x1x256.size a) ∧
  (∀ (k0_t6 : Fin (k0_t6_loop v4).trips) (k0_t10 : Fin (k0_t10_loop v4 k0_t6).trips), ∀ a, (k0_off126 v4 k0_t6 k0_t10) a + S1x1x16.size a ≤ S128x1x256.size a) ∧
  (∀ (k0_t6 : Fin (k0_t6_loop v4).trips) (k0_t10 : Fin (k0_t10_loop v4 k0_t6).trips), ∀ a, (k0_off127 v4 k0_t6 k0_t10) a + S1x1x16.size a ≤ S128x1x256.size a) ∧
  (∀ (k0_t6 : Fin (k0_t6_loop v4).trips) (k0_t10 : Fin (k0_t10_loop v4 k0_t6).trips), ∀ a, (k0_off128 v4 k0_t6 k0_t10) a + S1x1x16.size a ≤ S128x1x256.size a) ∧
  (∀ (k0_t6 : Fin (k0_t6_loop v4).trips) (k0_t10 : Fin (k0_t10_loop v4 k0_t6).trips), ∀ a, (k0_off129 v4 k0_t6 k0_t10) a + S1x1x16.size a ≤ S128x1x256.size a) ∧
  (∀ (k0_t6 : Fin (k0_t6_loop v4).trips) (k0_t10 : Fin (k0_t10_loop v4 k0_t6).trips), ∀ a, (k0_off130 v4 k0_t6 k0_t10) a + S1x1x16.size a ≤ S128x1x256.size a) ∧
  (∀ (k0_t6 : Fin (k0_t6_loop v4).trips) (k0_t10 : Fin (k0_t10_loop v4 k0_t6).trips), ∀ a, (k0_off131 v4 k0_t6 k0_t10) a + S1x1x16.size a ≤ S128x1x256.size a) ∧
  (∀ (k0_t6 : Fin (k0_t6_loop v4).trips) (k0_t10 : Fin (k0_t10_loop v4 k0_t6).trips), ∀ a, (k0_off132 v4 k0_t6 k0_t10) a + S1x1x16.size a ≤ S128x1x256.size a) ∧
  (∀ (k0_t6 : Fin (k0_t6_loop v4).trips) (k0_t10 : Fin (k0_t10_loop v4 k0_t6).trips), ∀ a, (k0_off133 v4 k0_t6 k0_t10) a + S1x1x16.size a ≤ S128x1x256.size a) ∧
  (∀ (k0_t6 : Fin (k0_t6_loop v4).trips) (k0_t10 : Fin (k0_t10_loop v4 k0_t6).trips), ∀ a, (k0_off134 v4 k0_t6 k0_t10) a + S1x1x16.size a ≤ S128x1x256.size a) ∧
  (∀ (k0_t6 : Fin (k0_t6_loop v4).trips) (k0_t10 : Fin (k0_t10_loop v4 k0_t6).trips), ∀ a, (k0_off135 v4 k0_t6 k0_t10) a + S1x1x16.size a ≤ S128x1x256.size a) ∧
  (∀ k0_t6 : Fin (k0_t6_loop v4).trips, ∀ (k0_h4 : k0_cond4 v4 k0_t6 = 1#1), ∀ a, (k0_off136 i v4 k0_t6) a + S128x1x256.size a ≤ S4096x16x512.size a) ∧
  (∀ a, (k0_off137 i v4) a + S1x1x256.size a ≤ S4096x16x512.size a)
def k0_chk1 (i : grid0.Coords) (v4 : BitVec 32) : Prop :=
  k0_chk1_0 i v4 ∧
  k0_chk1_1 i v4 ∧
  k0_chk1_2 i v4 ∧
  k0_chk1_3 i v4 ∧
  k0_chk1_4 i v4
theorem k0_t1_ok : ∀ (i : grid0.Coords) (v4 : BitVec 32) (k0_hw1 : k0_chk1 i v4), (k0_t1_loop v4).OK := fun i v4 k0_hw1 => k0_hw1.1.1
theorem k0_t2_ok : ∀ (i : grid0.Coords) (v4 : BitVec 32) (k0_hw1 : k0_chk1 i v4) (k0_t1 : Fin (k0_t1_loop v4).trips), (k0_t2_loop v4 k0_t1).OK := fun i v4 k0_hw1 k0_t1 => k0_hw1.1.2.1 k0_t1
theorem k0_off4_inb : ∀ (i : grid0.Coords) (v4 : BitVec 32) (k0_hw1 : k0_chk1 i v4) (k0_t1 : Fin (k0_t1_loop v4).trips) (k0_t2 : Fin (k0_t2_loop v4 k0_t1).trips), ∀ a, (k0_off4 v4 k0_t1 k0_t2) a + S1x1x16.size a ≤ S128x1x256.size a := fun i v4 k0_hw1 k0_t1 k0_t2 => k0_hw1.1.2.2.1 k0_t1 k0_t2
theorem k0_off5_inb : ∀ (i : grid0.Coords) (v4 : BitVec 32) (k0_hw1 : k0_chk1 i v4) (k0_t1 : Fin (k0_t1_loop v4).trips) (k0_t2 : Fin (k0_t2_loop v4 k0_t1).trips), ∀ a, (k0_off5 v4 k0_t1 k0_t2) a + S1x1x16.size a ≤ S128x1x256.size a := fun i v4 k0_hw1 k0_t1 k0_t2 => k0_hw1.1.2.2.2.1 k0_t1 k0_t2
theorem k0_off6_inb : ∀ (i : grid0.Coords) (v4 : BitVec 32) (k0_hw1 : k0_chk1 i v4) (k0_t1 : Fin (k0_t1_loop v4).trips) (k0_t2 : Fin (k0_t2_loop v4 k0_t1).trips), ∀ a, (k0_off6 v4 k0_t1 k0_t2) a + S1x1x16.size a ≤ S128x1x256.size a := fun i v4 k0_hw1 k0_t1 k0_t2 => k0_hw1.1.2.2.2.2.1 k0_t1 k0_t2
theorem k0_off7_inb : ∀ (i : grid0.Coords) (v4 : BitVec 32) (k0_hw1 : k0_chk1 i v4) (k0_t1 : Fin (k0_t1_loop v4).trips) (k0_t2 : Fin (k0_t2_loop v4 k0_t1).trips), ∀ a, (k0_off7 v4 k0_t1 k0_t2) a + S1x1x16.size a ≤ S128x1x256.size a := fun i v4 k0_hw1 k0_t1 k0_t2 => k0_hw1.1.2.2.2.2.2.1 k0_t1 k0_t2
theorem k0_off8_inb : ∀ (i : grid0.Coords) (v4 : BitVec 32) (k0_hw1 : k0_chk1 i v4) (k0_t1 : Fin (k0_t1_loop v4).trips) (k0_t2 : Fin (k0_t2_loop v4 k0_t1).trips), ∀ a, (k0_off8 v4 k0_t1 k0_t2) a + S1x1x16.size a ≤ S128x1x256.size a := fun i v4 k0_hw1 k0_t1 k0_t2 => k0_hw1.1.2.2.2.2.2.2.1 k0_t1 k0_t2
theorem k0_off9_inb : ∀ (i : grid0.Coords) (v4 : BitVec 32) (k0_hw1 : k0_chk1 i v4) (k0_t1 : Fin (k0_t1_loop v4).trips) (k0_t2 : Fin (k0_t2_loop v4 k0_t1).trips), ∀ a, (k0_off9 v4 k0_t1 k0_t2) a + S1x1x16.size a ≤ S128x1x256.size a := fun i v4 k0_hw1 k0_t1 k0_t2 => k0_hw1.1.2.2.2.2.2.2.2.1 k0_t1 k0_t2
theorem k0_off10_inb : ∀ (i : grid0.Coords) (v4 : BitVec 32) (k0_hw1 : k0_chk1 i v4) (k0_t1 : Fin (k0_t1_loop v4).trips) (k0_t2 : Fin (k0_t2_loop v4 k0_t1).trips), ∀ a, (k0_off10 v4 k0_t1 k0_t2) a + S1x1x16.size a ≤ S128x1x256.size a := fun i v4 k0_hw1 k0_t1 k0_t2 => k0_hw1.1.2.2.2.2.2.2.2.2.1 k0_t1 k0_t2
theorem k0_off11_inb : ∀ (i : grid0.Coords) (v4 : BitVec 32) (k0_hw1 : k0_chk1 i v4) (k0_t1 : Fin (k0_t1_loop v4).trips) (k0_t2 : Fin (k0_t2_loop v4 k0_t1).trips), ∀ a, (k0_off11 v4 k0_t1 k0_t2) a + S1x1x16.size a ≤ S128x1x256.size a := fun i v4 k0_hw1 k0_t1 k0_t2 => k0_hw1.1.2.2.2.2.2.2.2.2.2.1 k0_t1 k0_t2
theorem k0_off12_inb : ∀ (i : grid0.Coords) (v4 : BitVec 32) (k0_hw1 : k0_chk1 i v4) (k0_t1 : Fin (k0_t1_loop v4).trips) (k0_t2 : Fin (k0_t2_loop v4 k0_t1).trips), ∀ a, (k0_off12 v4 k0_t1 k0_t2) a + S1x1x16.size a ≤ S128x1x256.size a := fun i v4 k0_hw1 k0_t1 k0_t2 => k0_hw1.1.2.2.2.2.2.2.2.2.2.2.1 k0_t1 k0_t2
theorem k0_off13_inb : ∀ (i : grid0.Coords) (v4 : BitVec 32) (k0_hw1 : k0_chk1 i v4) (k0_t1 : Fin (k0_t1_loop v4).trips) (k0_t2 : Fin (k0_t2_loop v4 k0_t1).trips), ∀ a, (k0_off13 v4 k0_t1 k0_t2) a + S1x1x16.size a ≤ S128x1x256.size a := fun i v4 k0_hw1 k0_t1 k0_t2 => k0_hw1.1.2.2.2.2.2.2.2.2.2.2.2.1 k0_t1 k0_t2
theorem k0_off14_inb : ∀ (i : grid0.Coords) (v4 : BitVec 32) (k0_hw1 : k0_chk1 i v4) (k0_t1 : Fin (k0_t1_loop v4).trips) (k0_t2 : Fin (k0_t2_loop v4 k0_t1).trips), ∀ a, (k0_off14 v4 k0_t1 k0_t2) a + S1x1x16.size a ≤ S128x1x256.size a := fun i v4 k0_hw1 k0_t1 k0_t2 => k0_hw1.1.2.2.2.2.2.2.2.2.2.2.2.2.1 k0_t1 k0_t2
theorem k0_off15_inb : ∀ (i : grid0.Coords) (v4 : BitVec 32) (k0_hw1 : k0_chk1 i v4) (k0_t1 : Fin (k0_t1_loop v4).trips) (k0_t2 : Fin (k0_t2_loop v4 k0_t1).trips), ∀ a, (k0_off15 v4 k0_t1 k0_t2) a + S1x1x16.size a ≤ S128x1x256.size a := fun i v4 k0_hw1 k0_t1 k0_t2 => k0_hw1.1.2.2.2.2.2.2.2.2.2.2.2.2.2.1 k0_t1 k0_t2
theorem k0_off16_inb : ∀ (i : grid0.Coords) (v4 : BitVec 32) (k0_hw1 : k0_chk1 i v4) (k0_t1 : Fin (k0_t1_loop v4).trips) (k0_t2 : Fin (k0_t2_loop v4 k0_t1).trips), ∀ a, (k0_off16 v4 k0_t1 k0_t2) a + S1x1x16.size a ≤ S128x1x256.size a := fun i v4 k0_hw1 k0_t1 k0_t2 => k0_hw1.1.2.2.2.2.2.2.2.2.2.2.2.2.2.2.1 k0_t1 k0_t2
theorem k0_off17_inb : ∀ (i : grid0.Coords) (v4 : BitVec 32) (k0_hw1 : k0_chk1 i v4) (k0_t1 : Fin (k0_t1_loop v4).trips) (k0_t2 : Fin (k0_t2_loop v4 k0_t1).trips), ∀ a, (k0_off17 v4 k0_t1 k0_t2) a + S1x1x16.size a ≤ S128x1x256.size a := fun i v4 k0_hw1 k0_t1 k0_t2 => k0_hw1.1.2.2.2.2.2.2.2.2.2.2.2.2.2.2.2.1 k0_t1 k0_t2
theorem k0_off18_inb : ∀ (i : grid0.Coords) (v4 : BitVec 32) (k0_hw1 : k0_chk1 i v4) (k0_t1 : Fin (k0_t1_loop v4).trips) (k0_t2 : Fin (k0_t2_loop v4 k0_t1).trips), ∀ a, (k0_off18 v4 k0_t1 k0_t2) a + S1x1x16.size a ≤ S128x1x256.size a := fun i v4 k0_hw1 k0_t1 k0_t2 => k0_hw1.1.2.2.2.2.2.2.2.2.2.2.2.2.2.2.2.2.1 k0_t1 k0_t2
theorem k0_off19_inb : ∀ (i : grid0.Coords) (v4 : BitVec 32) (k0_hw1 : k0_chk1 i v4) (k0_t1 : Fin (k0_t1_loop v4).trips) (k0_t2 : Fin (k0_t2_loop v4 k0_t1).trips), ∀ a, (k0_off19 v4 k0_t1 k0_t2) a + S1x1x16.size a ≤ S128x1x256.size a := fun i v4 k0_hw1 k0_t1 k0_t2 => k0_hw1.1.2.2.2.2.2.2.2.2.2.2.2.2.2.2.2.2.2.1 k0_t1 k0_t2
theorem k0_t3_ok : ∀ (i : grid0.Coords) (v4 : BitVec 32) (k0_hw1 : k0_chk1 i v4) (k0_t1 : Fin (k0_t1_loop v4).trips), (k0_t3_loop v4 k0_t1).OK := fun i v4 k0_hw1 k0_t1 => k0_hw1.1.2.2.2.2.2.2.2.2.2.2.2.2.2.2.2.2.2.2.1 k0_t1
theorem k0_off20_inb : ∀ (i : grid0.Coords) (v4 : BitVec 32) (k0_hw1 : k0_chk1 i v4) (k0_t1 : Fin (k0_t1_loop v4).trips) (k0_t3 : Fin (k0_t3_loop v4 k0_t1).trips), ∀ a, (k0_off20 v4 k0_t1 k0_t3) a + S1x1x16.size a ≤ S128x1x256.size a := fun i v4 k0_hw1 k0_t1 k0_t3 => k0_hw1.1.2.2.2.2.2.2.2.2.2.2.2.2.2.2.2.2.2.2.2.1 k0_t1 k0_t3
theorem k0_off21_inb : ∀ (i : grid0.Coords) (v4 : BitVec 32) (k0_hw1 : k0_chk1 i v4) (k0_t1 : Fin (k0_t1_loop v4).trips) (k0_t3 : Fin (k0_t3_loop v4 k0_t1).trips), ∀ a, (k0_off21 v4 k0_t1 k0_t3) a + S1x1x16.size a ≤ S128x1x256.size a := fun i v4 k0_hw1 k0_t1 k0_t3 => k0_hw1.1.2.2.2.2.2.2.2.2.2.2.2.2.2.2.2.2.2.2.2.2.1 k0_t1 k0_t3
theorem k0_off22_inb : ∀ (i : grid0.Coords) (v4 : BitVec 32) (k0_hw1 : k0_chk1 i v4) (k0_t1 : Fin (k0_t1_loop v4).trips) (k0_t3 : Fin (k0_t3_loop v4 k0_t1).trips), ∀ a, (k0_off22 v4 k0_t1 k0_t3) a + S1x1x16.size a ≤ S128x1x256.size a := fun i v4 k0_hw1 k0_t1 k0_t3 => k0_hw1.1.2.2.2.2.2.2.2.2.2.2.2.2.2.2.2.2.2.2.2.2.2.1 k0_t1 k0_t3
theorem k0_off23_inb : ∀ (i : grid0.Coords) (v4 : BitVec 32) (k0_hw1 : k0_chk1 i v4) (k0_t1 : Fin (k0_t1_loop v4).trips) (k0_t3 : Fin (k0_t3_loop v4 k0_t1).trips), ∀ a, (k0_off23 v4 k0_t1 k0_t3) a + S1x1x16.size a ≤ S128x1x256.size a := fun i v4 k0_hw1 k0_t1 k0_t3 => k0_hw1.1.2.2.2.2.2.2.2.2.2.2.2.2.2.2.2.2.2.2.2.2.2.2.1 k0_t1 k0_t3
theorem k0_off24_inb : ∀ (i : grid0.Coords) (v4 : BitVec 32) (k0_hw1 : k0_chk1 i v4) (k0_t1 : Fin (k0_t1_loop v4).trips) (k0_t3 : Fin (k0_t3_loop v4 k0_t1).trips), ∀ a, (k0_off24 v4 k0_t1 k0_t3) a + S1x1x16.size a ≤ S128x1x256.size a := fun i v4 k0_hw1 k0_t1 k0_t3 => k0_hw1.1.2.2.2.2.2.2.2.2.2.2.2.2.2.2.2.2.2.2.2.2.2.2.2.1 k0_t1 k0_t3
theorem k0_off25_inb : ∀ (i : grid0.Coords) (v4 : BitVec 32) (k0_hw1 : k0_chk1 i v4) (k0_t1 : Fin (k0_t1_loop v4).trips) (k0_t3 : Fin (k0_t3_loop v4 k0_t1).trips), ∀ a, (k0_off25 v4 k0_t1 k0_t3) a + S1x1x16.size a ≤ S128x1x256.size a := fun i v4 k0_hw1 k0_t1 k0_t3 => k0_hw1.1.2.2.2.2.2.2.2.2.2.2.2.2.2.2.2.2.2.2.2.2.2.2.2.2.1 k0_t1 k0_t3
theorem k0_off26_inb : ∀ (i : grid0.Coords) (v4 : BitVec 32) (k0_hw1 : k0_chk1 i v4) (k0_t1 : Fin (k0_t1_loop v4).trips) (k0_t3 : Fin (k0_t3_loop v4 k0_t1).trips), ∀ a, (k0_off26 v4 k0_t1 k0_t3) a + S1x1x16.size a ≤ S128x1x256.size a := fun i v4 k0_hw1 k0_t1 k0_t3 => k0_hw1.1.2.2.2.2.2.2.2.2.2.2.2.2.2.2.2.2.2.2.2.2.2.2.2.2.2.1 k0_t1 k0_t3
theorem k0_off27_inb : ∀ (i : grid0.Coords) (v4 : BitVec 32) (k0_hw1 : k0_chk1 i v4) (k0_t1 : Fin (k0_t1_loop v4).trips) (k0_t3 : Fin (k0_t3_loop v4 k0_t1).trips), ∀ a, (k0_off27 v4 k0_t1 k0_t3) a + S1x1x16.size a ≤ S128x1x256.size a := fun i v4 k0_hw1 k0_t1 k0_t3 => k0_hw1.1.2.2.2.2.2.2.2.2.2.2.2.2.2.2.2.2.2.2.2.2.2.2.2.2.2.2.1 k0_t1 k0_t3
theorem k0_off28_inb : ∀ (i : grid0.Coords) (v4 : BitVec 32) (k0_hw1 : k0_chk1 i v4) (k0_t1 : Fin (k0_t1_loop v4).trips) (k0_t3 : Fin (k0_t3_loop v4 k0_t1).trips), ∀ a, (k0_off28 v4 k0_t1 k0_t3) a + S1x1x16.size a ≤ S128x1x256.size a := fun i v4 k0_hw1 k0_t1 k0_t3 => k0_hw1.1.2.2.2.2.2.2.2.2.2.2.2.2.2.2.2.2.2.2.2.2.2.2.2.2.2.2.2.1 k0_t1 k0_t3
theorem k0_off29_inb : ∀ (i : grid0.Coords) (v4 : BitVec 32) (k0_hw1 : k0_chk1 i v4) (k0_t1 : Fin (k0_t1_loop v4).trips) (k0_t3 : Fin (k0_t3_loop v4 k0_t1).trips), ∀ a, (k0_off29 v4 k0_t1 k0_t3) a + S1x1x16.size a ≤ S128x1x256.size a := fun i v4 k0_hw1 k0_t1 k0_t3 => k0_hw1.1.2.2.2.2.2.2.2.2.2.2.2.2.2.2.2.2.2.2.2.2.2.2.2.2.2.2.2.2.1 k0_t1 k0_t3
theorem k0_off30_inb : ∀ (i : grid0.Coords) (v4 : BitVec 32) (k0_hw1 : k0_chk1 i v4) (k0_t1 : Fin (k0_t1_loop v4).trips) (k0_t3 : Fin (k0_t3_loop v4 k0_t1).trips), ∀ a, (k0_off30 v4 k0_t1 k0_t3) a + S1x1x16.size a ≤ S128x1x256.size a := fun i v4 k0_hw1 k0_t1 k0_t3 => k0_hw1.1.2.2.2.2.2.2.2.2.2.2.2.2.2.2.2.2.2.2.2.2.2.2.2.2.2.2.2.2.2.1 k0_t1 k0_t3
theorem k0_off31_inb : ∀ (i : grid0.Coords) (v4 : BitVec 32) (k0_hw1 : k0_chk1 i v4) (k0_t1 : Fin (k0_t1_loop v4).trips) (k0_t3 : Fin (k0_t3_loop v4 k0_t1).trips), ∀ a, (k0_off31 v4 k0_t1 k0_t3) a + S1x1x16.size a ≤ S128x1x256.size a := fun i v4 k0_hw1 k0_t1 k0_t3 => k0_hw1.1.2.2.2.2.2.2.2.2.2.2.2.2.2.2.2.2.2.2.2.2.2.2.2.2.2.2.2.2.2.2.1 k0_t1 k0_t3
theorem k0_off32_inb : ∀ (i : grid0.Coords) (v4 : BitVec 32) (k0_hw1 : k0_chk1 i v4) (k0_t1 : Fin (k0_t1_loop v4).trips) (k0_t3 : Fin (k0_t3_loop v4 k0_t1).trips), ∀ a, (k0_off32 v4 k0_t1 k0_t3) a + S1x1x16.size a ≤ S128x1x256.size a := fun i v4 k0_hw1 k0_t1 k0_t3 => k0_hw1.1.2.2.2.2.2.2.2.2.2.2.2.2.2.2.2.2.2.2.2.2.2.2.2.2.2.2.2.2.2.2.2 k0_t1 k0_t3
theorem k0_off33_inb : ∀ (i : grid0.Coords) (v4 : BitVec 32) (k0_hw1 : k0_chk1 i v4) (k0_t1 : Fin (k0_t1_loop v4).trips) (k0_t3 : Fin (k0_t3_loop v4 k0_t1).trips), ∀ a, (k0_off33 v4 k0_t1 k0_t3) a + S1x1x16.size a ≤ S128x1x256.size a := fun i v4 k0_hw1 k0_t1 k0_t3 => k0_hw1.2.1.1 k0_t1 k0_t3
theorem k0_off34_inb : ∀ (i : grid0.Coords) (v4 : BitVec 32) (k0_hw1 : k0_chk1 i v4) (k0_t1 : Fin (k0_t1_loop v4).trips) (k0_t3 : Fin (k0_t3_loop v4 k0_t1).trips), ∀ a, (k0_off34 v4 k0_t1 k0_t3) a + S1x1x16.size a ≤ S128x1x256.size a := fun i v4 k0_hw1 k0_t1 k0_t3 => k0_hw1.2.1.2.1 k0_t1 k0_t3
theorem k0_off35_inb : ∀ (i : grid0.Coords) (v4 : BitVec 32) (k0_hw1 : k0_chk1 i v4) (k0_t1 : Fin (k0_t1_loop v4).trips) (k0_t3 : Fin (k0_t3_loop v4 k0_t1).trips), ∀ a, (k0_off35 v4 k0_t1 k0_t3) a + S1x1x16.size a ≤ S128x1x256.size a := fun i v4 k0_hw1 k0_t1 k0_t3 => k0_hw1.2.1.2.2.1 k0_t1 k0_t3
theorem k0_off36_inb : ∀ (i : grid0.Coords) (v4 : BitVec 32) (k0_hw1 : k0_chk1 i v4) (k0_t1 : Fin (k0_t1_loop v4).trips), ∀ (k0_h1 : k0_cond1 v4 k0_t1 = 1#1), ∀ a, (k0_off36 i v4 k0_t1) a + S128x1x256.size a ≤ S4096x16x512.size a := fun i v4 k0_hw1 k0_t1 k0_h1 => k0_hw1.2.1.2.2.2.1 k0_t1 k0_h1
theorem k0_t4_ok : ∀ (i : grid0.Coords) (v4 : BitVec 32) (k0_hw1 : k0_chk1 i v4) (k0_t1 : Fin (k0_t1_loop v4).trips), (k0_t4_loop v4 k0_t1).OK := fun i v4 k0_hw1 k0_t1 => k0_hw1.2.1.2.2.2.2.1 k0_t1
theorem k0_off37_inb : ∀ (i : grid0.Coords) (v4 : BitVec 32) (k0_hw1 : k0_chk1 i v4) (k0_t1 : Fin (k0_t1_loop v4).trips) (k0_t4 : Fin (k0_t4_loop v4 k0_t1).trips), ∀ a, (k0_off37 v4 k0_t1 k0_t4) a + S1x1x16.size a ≤ S128x1x256.size a := fun i v4 k0_hw1 k0_t1 k0_t4 => k0_hw1.2.1.2.2.2.2.2.1 k0_t1 k0_t4
theorem k0_off38_inb : ∀ (i : grid0.Coords) (v4 : BitVec 32) (k0_hw1 : k0_chk1 i v4) (k0_t1 : Fin (k0_t1_loop v4).trips) (k0_t4 : Fin (k0_t4_loop v4 k0_t1).trips), ∀ a, (k0_off38 v4 k0_t1 k0_t4) a + S1x1x16.size a ≤ S128x1x256.size a := fun i v4 k0_hw1 k0_t1 k0_t4 => k0_hw1.2.1.2.2.2.2.2.2.1 k0_t1 k0_t4
theorem k0_off39_inb : ∀ (i : grid0.Coords) (v4 : BitVec 32) (k0_hw1 : k0_chk1 i v4) (k0_t1 : Fin (k0_t1_loop v4).trips) (k0_t4 : Fin (k0_t4_loop v4 k0_t1).trips), ∀ a, (k0_off39 v4 k0_t1 k0_t4) a + S1x1x16.size a ≤ S128x1x256.size a := fun i v4 k0_hw1 k0_t1 k0_t4 => k0_hw1.2.1.2.2.2.2.2.2.2.1 k0_t1 k0_t4
theorem k0_off40_inb : ∀ (i : grid0.Coords) (v4 : BitVec 32) (k0_hw1 : k0_chk1 i v4) (k0_t1 : Fin (k0_t1_loop v4).trips) (k0_t4 : Fin (k0_t4_loop v4 k0_t1).trips), ∀ a, (k0_off40 v4 k0_t1 k0_t4) a + S1x1x16.size a ≤ S128x1x256.size a := fun i v4 k0_hw1 k0_t1 k0_t4 => k0_hw1.2.1.2.2.2.2.2.2.2.2.1 k0_t1 k0_t4
theorem k0_off41_inb : ∀ (i : grid0.Coords) (v4 : BitVec 32) (k0_hw1 : k0_chk1 i v4) (k0_t1 : Fin (k0_t1_loop v4).trips) (k0_t4 : Fin (k0_t4_loop v4 k0_t1).trips), ∀ a, (k0_off41 v4 k0_t1 k0_t4) a + S1x1x16.size a ≤ S128x1x256.size a := fun i v4 k0_hw1 k0_t1 k0_t4 => k0_hw1.2.1.2.2.2.2.2.2.2.2.2.1 k0_t1 k0_t4
theorem k0_off42_inb : ∀ (i : grid0.Coords) (v4 : BitVec 32) (k0_hw1 : k0_chk1 i v4) (k0_t1 : Fin (k0_t1_loop v4).trips) (k0_t4 : Fin (k0_t4_loop v4 k0_t1).trips), ∀ a, (k0_off42 v4 k0_t1 k0_t4) a + S1x1x16.size a ≤ S128x1x256.size a := fun i v4 k0_hw1 k0_t1 k0_t4 => k0_hw1.2.1.2.2.2.2.2.2.2.2.2.2.1 k0_t1 k0_t4
theorem k0_off43_inb : ∀ (i : grid0.Coords) (v4 : BitVec 32) (k0_hw1 : k0_chk1 i v4) (k0_t1 : Fin (k0_t1_loop v4).trips) (k0_t4 : Fin (k0_t4_loop v4 k0_t1).trips), ∀ a, (k0_off43 v4 k0_t1 k0_t4) a + S1x1x16.size a ≤ S128x1x256.size a := fun i v4 k0_hw1 k0_t1 k0_t4 => k0_hw1.2.1.2.2.2.2.2.2.2.2.2.2.2.1 k0_t1 k0_t4
theorem k0_off44_inb : ∀ (i : grid0.Coords) (v4 : BitVec 32) (k0_hw1 : k0_chk1 i v4) (k0_t1 : Fin (k0_t1_loop v4).trips) (k0_t4 : Fin (k0_t4_loop v4 k0_t1).trips), ∀ a, (k0_off44 v4 k0_t1 k0_t4) a + S1x1x16.size a ≤ S128x1x256.size a := fun i v4 k0_hw1 k0_t1 k0_t4 => k0_hw1.2.1.2.2.2.2.2.2.2.2.2.2.2.2.1 k0_t1 k0_t4
theorem k0_off45_inb : ∀ (i : grid0.Coords) (v4 : BitVec 32) (k0_hw1 : k0_chk1 i v4) (k0_t1 : Fin (k0_t1_loop v4).trips) (k0_t4 : Fin (k0_t4_loop v4 k0_t1).trips), ∀ a, (k0_off45 v4 k0_t1 k0_t4) a + S1x1x16.size a ≤ S128x1x256.size a := fun i v4 k0_hw1 k0_t1 k0_t4 => k0_hw1.2.1.2.2.2.2.2.2.2.2.2.2.2.2.2.1 k0_t1 k0_t4
theorem k0_off46_inb : ∀ (i : grid0.Coords) (v4 : BitVec 32) (k0_hw1 : k0_chk1 i v4) (k0_t1 : Fin (k0_t1_loop v4).trips) (k0_t4 : Fin (k0_t4_loop v4 k0_t1).trips), ∀ a, (k0_off46 v4 k0_t1 k0_t4) a + S1x1x16.size a ≤ S128x1x256.size a := fun i v4 k0_hw1 k0_t1 k0_t4 => k0_hw1.2.1.2.2.2.2.2.2.2.2.2.2.2.2.2.2.1 k0_t1 k0_t4
theorem k0_off47_inb : ∀ (i : grid0.Coords) (v4 : BitVec 32) (k0_hw1 : k0_chk1 i v4) (k0_t1 : Fin (k0_t1_loop v4).trips) (k0_t4 : Fin (k0_t4_loop v4 k0_t1).trips), ∀ a, (k0_off47 v4 k0_t1 k0_t4) a + S1x1x16.size a ≤ S128x1x256.size a := fun i v4 k0_hw1 k0_t1 k0_t4 => k0_hw1.2.1.2.2.2.2.2.2.2.2.2.2.2.2.2.2.2.1 k0_t1 k0_t4
theorem k0_off48_inb : ∀ (i : grid0.Coords) (v4 : BitVec 32) (k0_hw1 : k0_chk1 i v4) (k0_t1 : Fin (k0_t1_loop v4).trips) (k0_t4 : Fin (k0_t4_loop v4 k0_t1).trips), ∀ a, (k0_off48 v4 k0_t1 k0_t4) a + S1x1x16.size a ≤ S128x1x256.size a := fun i v4 k0_hw1 k0_t1 k0_t4 => k0_hw1.2.1.2.2.2.2.2.2.2.2.2.2.2.2.2.2.2.2.1 k0_t1 k0_t4
theorem k0_off49_inb : ∀ (i : grid0.Coords) (v4 : BitVec 32) (k0_hw1 : k0_chk1 i v4) (k0_t1 : Fin (k0_t1_loop v4).trips) (k0_t4 : Fin (k0_t4_loop v4 k0_t1).trips), ∀ a, (k0_off49 v4 k0_t1 k0_t4) a + S1x1x16.size a ≤ S128x1x256.size a := fun i v4 k0_hw1 k0_t1 k0_t4 => k0_hw1.2.1.2.2.2.2.2.2.2.2.2.2.2.2.2.2.2.2.2.1 k0_t1 k0_t4
theorem k0_off50_inb : ∀ (i : grid0.Coords) (v4 : BitVec 32) (k0_hw1 : k0_chk1 i v4) (k0_t1 : Fin (k0_t1_loop v4).trips) (k0_t4 : Fin (k0_t4_loop v4 k0_t1).trips), ∀ a, (k0_off50 v4 k0_t1 k0_t4) a + S1x1x16.size a ≤ S128x1x256.size a := fun i v4 k0_hw1 k0_t1 k0_t4 => k0_hw1.2.1.2.2.2.2.2.2.2.2.2.2.2.2.2.2.2.2.2.2.1 k0_t1 k0_t4
theorem k0_off51_inb : ∀ (i : grid0.Coords) (v4 : BitVec 32) (k0_hw1 : k0_chk1 i v4) (k0_t1 : Fin (k0_t1_loop v4).trips) (k0_t4 : Fin (k0_t4_loop v4 k0_t1).trips), ∀ a, (k0_off51 v4 k0_t1 k0_t4) a + S1x1x16.size a ≤ S128x1x256.size a := fun i v4 k0_hw1 k0_t1 k0_t4 => k0_hw1.2.1.2.2.2.2.2.2.2.2.2.2.2.2.2.2.2.2.2.2.2.1 k0_t1 k0_t4
theorem k0_off52_inb : ∀ (i : grid0.Coords) (v4 : BitVec 32) (k0_hw1 : k0_chk1 i v4) (k0_t1 : Fin (k0_t1_loop v4).trips) (k0_t4 : Fin (k0_t4_loop v4 k0_t1).trips), ∀ a, (k0_off52 v4 k0_t1 k0_t4) a + S1x1x16.size a ≤ S128x1x256.size a := fun i v4 k0_hw1 k0_t1 k0_t4 => k0_hw1.2.1.2.2.2.2.2.2.2.2.2.2.2.2.2.2.2.2.2.2.2.2.1 k0_t1 k0_t4
theorem k0_t5_ok : ∀ (i : grid0.Coords) (v4 : BitVec 32) (k0_hw1 : k0_chk1 i v4) (k0_t1 : Fin (k0_t1_loop v4).trips), (k0_t5_loop v4 k0_t1).OK := fun i v4 k0_hw1 k0_t1 => k0_hw1.2.1.2.2.2.2.2.2.2.2.2.2.2.2.2.2.2.2.2.2.2.2.2.1 k0_t1
theorem k0_off53_inb : ∀ (i : grid0.Coords) (v4 : BitVec 32) (k0_hw1 : k0_chk1 i v4) (k0_t1 : Fin (k0_t1_loop v4).trips) (k0_t5 : Fin (k0_t5_loop v4 k0_t1).trips), ∀ a, (k0_off53 v4 k0_t1 k0_t5) a + S1x1x16.size a ≤ S128x1x256.size a := fun i v4 k0_hw1 k0_t1 k0_t5 => k0_hw1.2.1.2.2.2.2.2.2.2.2.2.2.2.2.2.2.2.2.2.2.2.2.2.2.1 k0_t1 k0_t5
theorem k0_off54_inb : ∀ (i : grid0.Coords) (v4 : BitVec 32) (k0_hw1 : k0_chk1 i v4) (k0_t1 : Fin (k0_t1_loop v4).trips) (k0_t5 : Fin (k0_t5_loop v4 k0_t1).trips), ∀ a, (k0_off54 v4 k0_t1 k0_t5) a + S1x1x16.size a ≤ S128x1x256.size a := fun i v4 k0_hw1 k0_t1 k0_t5 => k0_hw1.2.1.2.2.2.2.2.2.2.2.2.2.2.2.2.2.2.2.2.2.2.2.2.2.2.1 k0_t1 k0_t5
theorem k0_off55_inb : ∀ (i : grid0.Coords) (v4 : BitVec 32) (k0_hw1 : k0_chk1 i v4) (k0_t1 : Fin (k0_t1_loop v4).trips) (k0_t5 : Fin (k0_t5_loop v4 k0_t1).trips), ∀ a, (k0_off55 v4 k0_t1 k0_t5) a + S1x1x16.size a ≤ S128x1x256.size a := fun i v4 k0_hw1 k0_t1 k0_t5 => k0_hw1.2.1.2.2.2.2.2.2.2.2.2.2.2.2.2.2.2.2.2.2.2.2.2.2.2.2.1 k0_t1 k0_t5
theorem k0_off56_inb : ∀ (i : grid0.Coords) (v4 : BitVec 32) (k0_hw1 : k0_chk1 i v4) (k0_t1 : Fin (k0_t1_loop v4).trips) (k0_t5 : Fin (k0_t5_loop v4 k0_t1).trips), ∀ a, (k0_off56 v4 k0_t1 k0_t5) a + S1x1x16.size a ≤ S128x1x256.size a := fun i v4 k0_hw1 k0_t1 k0_t5 => k0_hw1.2.1.2.2.2.2.2.2.2.2.2.2.2.2.2.2.2.2.2.2.2.2.2.2.2.2.2.1 k0_t1 k0_t5
theorem k0_off57_inb : ∀ (i : grid0.Coords) (v4 : BitVec 32) (k0_hw1 : k0_chk1 i v4) (k0_t1 : Fin (k0_t1_loop v4).trips) (k0_t5 : Fin (k0_t5_loop v4 k0_t1).trips), ∀ a, (k0_off57 v4 k0_t1 k0_t5) a + S1x1x16.size a ≤ S128x1x256.size a := fun i v4 k0_hw1 k0_t1 k0_t5 => k0_hw1.2.1.2.2.2.2.2.2.2.2.2.2.2.2.2.2.2.2.2.2.2.2.2.2.2.2.2.2.1 k0_t1 k0_t5
theorem k0_off58_inb : ∀ (i : grid0.Coords) (v4 : BitVec 32) (k0_hw1 : k0_chk1 i v4) (k0_t1 : Fin (k0_t1_loop v4).trips) (k0_t5 : Fin (k0_t5_loop v4 k0_t1).trips), ∀ a, (k0_off58 v4 k0_t1 k0_t5) a + S1x1x16.size a ≤ S128x1x256.size a := fun i v4 k0_hw1 k0_t1 k0_t5 => k0_hw1.2.1.2.2.2.2.2.2.2.2.2.2.2.2.2.2.2.2.2.2.2.2.2.2.2.2.2.2.2.1 k0_t1 k0_t5
theorem k0_off59_inb : ∀ (i : grid0.Coords) (v4 : BitVec 32) (k0_hw1 : k0_chk1 i v4) (k0_t1 : Fin (k0_t1_loop v4).trips) (k0_t5 : Fin (k0_t5_loop v4 k0_t1).trips), ∀ a, (k0_off59 v4 k0_t1 k0_t5) a + S1x1x16.size a ≤ S128x1x256.size a := fun i v4 k0_hw1 k0_t1 k0_t5 => k0_hw1.2.1.2.2.2.2.2.2.2.2.2.2.2.2.2.2.2.2.2.2.2.2.2.2.2.2.2.2.2.2.1 k0_t1 k0_t5
theorem k0_off60_inb : ∀ (i : grid0.Coords) (v4 : BitVec 32) (k0_hw1 : k0_chk1 i v4) (k0_t1 : Fin (k0_t1_loop v4).trips) (k0_t5 : Fin (k0_t5_loop v4 k0_t1).trips), ∀ a, (k0_off60 v4 k0_t1 k0_t5) a + S1x1x16.size a ≤ S128x1x256.size a := fun i v4 k0_hw1 k0_t1 k0_t5 => k0_hw1.2.1.2.2.2.2.2.2.2.2.2.2.2.2.2.2.2.2.2.2.2.2.2.2.2.2.2.2.2.2.2.1 k0_t1 k0_t5
theorem k0_off61_inb : ∀ (i : grid0.Coords) (v4 : BitVec 32) (k0_hw1 : k0_chk1 i v4) (k0_t1 : Fin (k0_t1_loop v4).trips) (k0_t5 : Fin (k0_t5_loop v4 k0_t1).trips), ∀ a, (k0_off61 v4 k0_t1 k0_t5) a + S1x1x16.size a ≤ S128x1x256.size a := fun i v4 k0_hw1 k0_t1 k0_t5 => k0_hw1.2.1.2.2.2.2.2.2.2.2.2.2.2.2.2.2.2.2.2.2.2.2.2.2.2.2.2.2.2.2.2.2.1 k0_t1 k0_t5
theorem k0_off62_inb : ∀ (i : grid0.Coords) (v4 : BitVec 32) (k0_hw1 : k0_chk1 i v4) (k0_t1 : Fin (k0_t1_loop v4).trips) (k0_t5 : Fin (k0_t5_loop v4 k0_t1).trips), ∀ a, (k0_off62 v4 k0_t1 k0_t5) a + S1x1x16.size a ≤ S128x1x256.size a := fun i v4 k0_hw1 k0_t1 k0_t5 => k0_hw1.2.1.2.2.2.2.2.2.2.2.2.2.2.2.2.2.2.2.2.2.2.2.2.2.2.2.2.2.2.2.2.2.2 k0_t1 k0_t5
theorem k0_off63_inb : ∀ (i : grid0.Coords) (v4 : BitVec 32) (k0_hw1 : k0_chk1 i v4) (k0_t1 : Fin (k0_t1_loop v4).trips) (k0_t5 : Fin (k0_t5_loop v4 k0_t1).trips), ∀ a, (k0_off63 v4 k0_t1 k0_t5) a + S1x1x16.size a ≤ S128x1x256.size a := fun i v4 k0_hw1 k0_t1 k0_t5 => k0_hw1.2.2.1.1 k0_t1 k0_t5
theorem k0_off64_inb : ∀ (i : grid0.Coords) (v4 : BitVec 32) (k0_hw1 : k0_chk1 i v4) (k0_t1 : Fin (k0_t1_loop v4).trips) (k0_t5 : Fin (k0_t5_loop v4 k0_t1).trips), ∀ a, (k0_off64 v4 k0_t1 k0_t5) a + S1x1x16.size a ≤ S128x1x256.size a := fun i v4 k0_hw1 k0_t1 k0_t5 => k0_hw1.2.2.1.2.1 k0_t1 k0_t5
theorem k0_off65_inb : ∀ (i : grid0.Coords) (v4 : BitVec 32) (k0_hw1 : k0_chk1 i v4) (k0_t1 : Fin (k0_t1_loop v4).trips) (k0_t5 : Fin (k0_t5_loop v4 k0_t1).trips), ∀ a, (k0_off65 v4 k0_t1 k0_t5) a + S1x1x16.size a ≤ S128x1x256.size a := fun i v4 k0_hw1 k0_t1 k0_t5 => k0_hw1.2.2.1.2.2.1 k0_t1 k0_t5
theorem k0_off66_inb : ∀ (i : grid0.Coords) (v4 : BitVec 32) (k0_hw1 : k0_chk1 i v4) (k0_t1 : Fin (k0_t1_loop v4).trips) (k0_t5 : Fin (k0_t5_loop v4 k0_t1).trips), ∀ a, (k0_off66 v4 k0_t1 k0_t5) a + S1x1x16.size a ≤ S128x1x256.size a := fun i v4 k0_hw1 k0_t1 k0_t5 => k0_hw1.2.2.1.2.2.2.1 k0_t1 k0_t5
theorem k0_off67_inb : ∀ (i : grid0.Coords) (v4 : BitVec 32) (k0_hw1 : k0_chk1 i v4) (k0_t1 : Fin (k0_t1_loop v4).trips) (k0_t5 : Fin (k0_t5_loop v4 k0_t1).trips), ∀ a, (k0_off67 v4 k0_t1 k0_t5) a + S1x1x16.size a ≤ S128x1x256.size a := fun i v4 k0_hw1 k0_t1 k0_t5 => k0_hw1.2.2.1.2.2.2.2.1 k0_t1 k0_t5
theorem k0_off68_inb : ∀ (i : grid0.Coords) (v4 : BitVec 32) (k0_hw1 : k0_chk1 i v4) (k0_t1 : Fin (k0_t1_loop v4).trips) (k0_t5 : Fin (k0_t5_loop v4 k0_t1).trips), ∀ a, (k0_off68 v4 k0_t1 k0_t5) a + S1x1x16.size a ≤ S128x1x256.size a := fun i v4 k0_hw1 k0_t1 k0_t5 => k0_hw1.2.2.1.2.2.2.2.2.1 k0_t1 k0_t5
theorem k0_off69_inb : ∀ (i : grid0.Coords) (v4 : BitVec 32) (k0_hw1 : k0_chk1 i v4) (k0_t1 : Fin (k0_t1_loop v4).trips), ∀ (k0_h2 : k0_cond2 v4 k0_t1 = 1#1), ∀ a, (k0_off69 i v4 k0_t1) a + S128x1x256.size a ≤ S4096x16x512.size a := fun i v4 k0_hw1 k0_t1 k0_h2 => k0_hw1.2.2.1.2.2.2.2.2.2.1 k0_t1 k0_h2
theorem k0_t6_ok : ∀ (i : grid0.Coords) (v4 : BitVec 32) (k0_hw1 : k0_chk1 i v4), (k0_t6_loop v4).OK := fun i v4 k0_hw1 => k0_hw1.2.2.1.2.2.2.2.2.2.2.1
theorem k0_t7_ok : ∀ (i : grid0.Coords) (v4 : BitVec 32) (k0_hw1 : k0_chk1 i v4) (k0_t6 : Fin (k0_t6_loop v4).trips), (k0_t7_loop v4 k0_t6).OK := fun i v4 k0_hw1 k0_t6 => k0_hw1.2.2.1.2.2.2.2.2.2.2.2.1 k0_t6
theorem k0_off71_inb : ∀ (i : grid0.Coords) (v4 : BitVec 32) (k0_hw1 : k0_chk1 i v4) (k0_t6 : Fin (k0_t6_loop v4).trips) (k0_t7 : Fin (k0_t7_loop v4 k0_t6).trips), ∀ a, (k0_off71 v4 k0_t6 k0_t7) a + S1x1x16.size a ≤ S128x1x256.size a := fun i v4 k0_hw1 k0_t6 k0_t7 => k0_hw1.2.2.1.2.2.2.2.2.2.2.2.2.1 k0_t6 k0_t7
theorem k0_off72_inb : ∀ (i : grid0.Coords) (v4 : BitVec 32) (k0_hw1 : k0_chk1 i v4) (k0_t6 : Fin (k0_t6_loop v4).trips) (k0_t7 : Fin (k0_t7_loop v4 k0_t6).trips), ∀ a, (k0_off72 v4 k0_t6 k0_t7) a + S1x1x16.size a ≤ S128x1x256.size a := fun i v4 k0_hw1 k0_t6 k0_t7 => k0_hw1.2.2.1.2.2.2.2.2.2.2.2.2.2.1 k0_t6 k0_t7
theorem k0_off73_inb : ∀ (i : grid0.Coords) (v4 : BitVec 32) (k0_hw1 : k0_chk1 i v4) (k0_t6 : Fin (k0_t6_loop v4).trips) (k0_t7 : Fin (k0_t7_loop v4 k0_t6).trips), ∀ a, (k0_off73 v4 k0_t6 k0_t7) a + S1x1x16.size a ≤ S128x1x256.size a := fun i v4 k0_hw1 k0_t6 k0_t7 => k0_hw1.2.2.1.2.2.2.2.2.2.2.2.2.2.2.1 k0_t6 k0_t7
theorem k0_off74_inb : ∀ (i : grid0.Coords) (v4 : BitVec 32) (k0_hw1 : k0_chk1 i v4) (k0_t6 : Fin (k0_t6_loop v4).trips) (k0_t7 : Fin (k0_t7_loop v4 k0_t6).trips), ∀ a, (k0_off74 v4 k0_t6 k0_t7) a + S1x1x16.size a ≤ S128x1x256.size a := fun i v4 k0_hw1 k0_t6 k0_t7 => k0_hw1.2.2.1.2.2.2.2.2.2.2.2.2.2.2.2.1 k0_t6 k0_t7
theorem k0_off75_inb : ∀ (i : grid0.Coords) (v4 : BitVec 32) (k0_hw1 : k0_chk1 i v4) (k0_t6 : Fin (k0_t6_loop v4).trips) (k0_t7 : Fin (k0_t7_loop v4 k0_t6).trips), ∀ a, (k0_off75 v4 k0_t6 k0_t7) a + S1x1x16.size a ≤ S128x1x256.size a := fun i v4 k0_hw1 k0_t6 k0_t7 => k0_hw1.2.2.1.2.2.2.2.2.2.2.2.2.2.2.2.2.1 k0_t6 k0_t7
theorem k0_off76_inb : ∀ (i : grid0.Coords) (v4 : BitVec 32) (k0_hw1 : k0_chk1 i v4) (k0_t6 : Fin (k0_t6_loop v4).trips) (k0_t7 : Fin (k0_t7_loop v4 k0_t6).trips), ∀ a, (k0_off76 v4 k0_t6 k0_t7) a + S1x1x16.size a ≤ S128x1x256.size a := fun i v4 k0_hw1 k0_t6 k0_t7 => k0_hw1.2.2.1.2.2.2.2.2.2.2.2.2.2.2.2.2.2.1 k0_t6 k0_t7
theorem k0_off77_inb : ∀ (i : grid0.Coords) (v4 : BitVec 32) (k0_hw1 : k0_chk1 i v4) (k0_t6 : Fin (k0_t6_loop v4).trips) (k0_t7 : Fin (k0_t7_loop v4 k0_t6).trips), ∀ a, (k0_off77 v4 k0_t6 k0_t7) a + S1x1x16.size a ≤ S128x1x256.size a := fun i v4 k0_hw1 k0_t6 k0_t7 => k0_hw1.2.2.1.2.2.2.2.2.2.2.2.2.2.2.2.2.2.2.1 k0_t6 k0_t7
theorem k0_off78_inb : ∀ (i : grid0.Coords) (v4 : BitVec 32) (k0_hw1 : k0_chk1 i v4) (k0_t6 : Fin (k0_t6_loop v4).trips) (k0_t7 : Fin (k0_t7_loop v4 k0_t6).trips), ∀ a, (k0_off78 v4 k0_t6 k0_t7) a + S1x1x16.size a ≤ S128x1x256.size a := fun i v4 k0_hw1 k0_t6 k0_t7 => k0_hw1.2.2.1.2.2.2.2.2.2.2.2.2.2.2.2.2.2.2.2.1 k0_t6 k0_t7
theorem k0_off79_inb : ∀ (i : grid0.Coords) (v4 : BitVec 32) (k0_hw1 : k0_chk1 i v4) (k0_t6 : Fin (k0_t6_loop v4).trips) (k0_t7 : Fin (k0_t7_loop v4 k0_t6).trips), ∀ a, (k0_off79 v4 k0_t6 k0_t7) a + S1x1x16.size a ≤ S128x1x256.size a := fun i v4 k0_hw1 k0_t6 k0_t7 => k0_hw1.2.2.1.2.2.2.2.2.2.2.2.2.2.2.2.2.2.2.2.2.1 k0_t6 k0_t7
theorem k0_off80_inb : ∀ (i : grid0.Coords) (v4 : BitVec 32) (k0_hw1 : k0_chk1 i v4) (k0_t6 : Fin (k0_t6_loop v4).trips) (k0_t7 : Fin (k0_t7_loop v4 k0_t6).trips), ∀ a, (k0_off80 v4 k0_t6 k0_t7) a + S1x1x16.size a ≤ S128x1x256.size a := fun i v4 k0_hw1 k0_t6 k0_t7 => k0_hw1.2.2.1.2.2.2.2.2.2.2.2.2.2.2.2.2.2.2.2.2.2.1 k0_t6 k0_t7
theorem k0_off81_inb : ∀ (i : grid0.Coords) (v4 : BitVec 32) (k0_hw1 : k0_chk1 i v4) (k0_t6 : Fin (k0_t6_loop v4).trips) (k0_t7 : Fin (k0_t7_loop v4 k0_t6).trips), ∀ a, (k0_off81 v4 k0_t6 k0_t7) a + S1x1x16.size a ≤ S128x1x256.size a := fun i v4 k0_hw1 k0_t6 k0_t7 => k0_hw1.2.2.1.2.2.2.2.2.2.2.2.2.2.2.2.2.2.2.2.2.2.2.1 k0_t6 k0_t7
theorem k0_off82_inb : ∀ (i : grid0.Coords) (v4 : BitVec 32) (k0_hw1 : k0_chk1 i v4) (k0_t6 : Fin (k0_t6_loop v4).trips) (k0_t7 : Fin (k0_t7_loop v4 k0_t6).trips), ∀ a, (k0_off82 v4 k0_t6 k0_t7) a + S1x1x16.size a ≤ S128x1x256.size a := fun i v4 k0_hw1 k0_t6 k0_t7 => k0_hw1.2.2.1.2.2.2.2.2.2.2.2.2.2.2.2.2.2.2.2.2.2.2.2.1 k0_t6 k0_t7
theorem k0_off83_inb : ∀ (i : grid0.Coords) (v4 : BitVec 32) (k0_hw1 : k0_chk1 i v4) (k0_t6 : Fin (k0_t6_loop v4).trips) (k0_t7 : Fin (k0_t7_loop v4 k0_t6).trips), ∀ a, (k0_off83 v4 k0_t6 k0_t7) a + S1x1x16.size a ≤ S128x1x256.size a := fun i v4 k0_hw1 k0_t6 k0_t7 => k0_hw1.2.2.1.2.2.2.2.2.2.2.2.2.2.2.2.2.2.2.2.2.2.2.2.2.1 k0_t6 k0_t7
theorem k0_off84_inb : ∀ (i : grid0.Coords) (v4 : BitVec 32) (k0_hw1 : k0_chk1 i v4) (k0_t6 : Fin (k0_t6_loop v4).trips) (k0_t7 : Fin (k0_t7_loop v4 k0_t6).trips), ∀ a, (k0_off84 v4 k0_t6 k0_t7) a + S1x1x16.size a ≤ S128x1x256.size a := fun i v4 k0_hw1 k0_t6 k0_t7 => k0_hw1.2.2.1.2.2.2.2.2.2.2.2.2.2.2.2.2.2.2.2.2.2.2.2.2.2.1 k0_t6 k0_t7
theorem k0_off85_inb : ∀ (i : grid0.Coords) (v4 : BitVec 32) (k0_hw1 : k0_chk1 i v4) (k0_t6 : Fin (k0_t6_loop v4).trips) (k0_t7 : Fin (k0_t7_loop v4 k0_t6).trips), ∀ a, (k0_off85 v4 k0_t6 k0_t7) a + S1x1x16.size a ≤ S128x1x256.size a := fun i v4 k0_hw1 k0_t6 k0_t7 => k0_hw1.2.2.1.2.2.2.2.2.2.2.2.2.2.2.2.2.2.2.2.2.2.2.2.2.2.2.1 k0_t6 k0_t7
theorem k0_off86_inb : ∀ (i : grid0.Coords) (v4 : BitVec 32) (k0_hw1 : k0_chk1 i v4) (k0_t6 : Fin (k0_t6_loop v4).trips) (k0_t7 : Fin (k0_t7_loop v4 k0_t6).trips), ∀ a, (k0_off86 v4 k0_t6 k0_t7) a + S1x1x16.size a ≤ S128x1x256.size a := fun i v4 k0_hw1 k0_t6 k0_t7 => k0_hw1.2.2.1.2.2.2.2.2.2.2.2.2.2.2.2.2.2.2.2.2.2.2.2.2.2.2.2.1 k0_t6 k0_t7
theorem k0_t8_ok : ∀ (i : grid0.Coords) (v4 : BitVec 32) (k0_hw1 : k0_chk1 i v4) (k0_t6 : Fin (k0_t6_loop v4).trips), (k0_t8_loop v4 k0_t6).OK := fun i v4 k0_hw1 k0_t6 => k0_hw1.2.2.1.2.2.2.2.2.2.2.2.2.2.2.2.2.2.2.2.2.2.2.2.2.2.2.2.2.1 k0_t6
theorem k0_off87_inb : ∀ (i : grid0.Coords) (v4 : BitVec 32) (k0_hw1 : k0_chk1 i v4) (k0_t6 : Fin (k0_t6_loop v4).trips) (k0_t8 : Fin (k0_t8_loop v4 k0_t6).trips), ∀ a, (k0_off87 v4 k0_t6 k0_t8) a + S1x1x16.size a ≤ S128x1x256.size a := fun i v4 k0_hw1 k0_t6 k0_t8 => k0_hw1.2.2.1.2.2.2.2.2.2.2.2.2.2.2.2.2.2.2.2.2.2.2.2.2.2.2.2.2.2.1 k0_t6 k0_t8
theorem k0_off88_inb : ∀ (i : grid0.Coords) (v4 : BitVec 32) (k0_hw1 : k0_chk1 i v4) (k0_t6 : Fin (k0_t6_loop v4).trips) (k0_t8 : Fin (k0_t8_loop v4 k0_t6).trips), ∀ a, (k0_off88 v4 k0_t6 k0_t8) a + S1x1x16.size a ≤ S128x1x256.size a := fun i v4 k0_hw1 k0_t6 k0_t8 => k0_hw1.2.2.1.2.2.2.2.2.2.2.2.2.2.2.2.2.2.2.2.2.2.2.2.2.2.2.2.2.2.2.1 k0_t6 k0_t8
theorem k0_off89_inb : ∀ (i : grid0.Coords) (v4 : BitVec 32) (k0_hw1 : k0_chk1 i v4) (k0_t6 : Fin (k0_t6_loop v4).trips) (k0_t8 : Fin (k0_t8_loop v4 k0_t6).trips), ∀ a, (k0_off89 v4 k0_t6 k0_t8) a + S1x1x16.size a ≤ S128x1x256.size a := fun i v4 k0_hw1 k0_t6 k0_t8 => k0_hw1.2.2.1.2.2.2.2.2.2.2.2.2.2.2.2.2.2.2.2.2.2.2.2.2.2.2.2.2.2.2.2.1 k0_t6 k0_t8
theorem k0_off90_inb : ∀ (i : grid0.Coords) (v4 : BitVec 32) (k0_hw1 : k0_chk1 i v4) (k0_t6 : Fin (k0_t6_loop v4).trips) (k0_t8 : Fin (k0_t8_loop v4 k0_t6).trips), ∀ a, (k0_off90 v4 k0_t6 k0_t8) a + S1x1x16.size a ≤ S128x1x256.size a := fun i v4 k0_hw1 k0_t6 k0_t8 => k0_hw1.2.2.1.2.2.2.2.2.2.2.2.2.2.2.2.2.2.2.2.2.2.2.2.2.2.2.2.2.2.2.2.2.1 k0_t6 k0_t8
theorem k0_off91_inb : ∀ (i : grid0.Coords) (v4 : BitVec 32) (k0_hw1 : k0_chk1 i v4) (k0_t6 : Fin (k0_t6_loop v4).trips) (k0_t8 : Fin (k0_t8_loop v4 k0_t6).trips), ∀ a, (k0_off91 v4 k0_t6 k0_t8) a + S1x1x16.size a ≤ S128x1x256.size a := fun i v4 k0_hw1 k0_t6 k0_t8 => k0_hw1.2.2.1.2.2.2.2.2.2.2.2.2.2.2.2.2.2.2.2.2.2.2.2.2.2.2.2.2.2.2.2.2.2.1 k0_t6 k0_t8
theorem k0_off92_inb : ∀ (i : grid0.Coords) (v4 : BitVec 32) (k0_hw1 : k0_chk1 i v4) (k0_t6 : Fin (k0_t6_loop v4).trips) (k0_t8 : Fin (k0_t8_loop v4 k0_t6).trips), ∀ a, (k0_off92 v4 k0_t6 k0_t8) a + S1x1x16.size a ≤ S128x1x256.size a := fun i v4 k0_hw1 k0_t6 k0_t8 => k0_hw1.2.2.1.2.2.2.2.2.2.2.2.2.2.2.2.2.2.2.2.2.2.2.2.2.2.2.2.2.2.2.2.2.2.2 k0_t6 k0_t8
theorem k0_off93_inb : ∀ (i : grid0.Coords) (v4 : BitVec 32) (k0_hw1 : k0_chk1 i v4) (k0_t6 : Fin (k0_t6_loop v4).trips) (k0_t8 : Fin (k0_t8_loop v4 k0_t6).trips), ∀ a, (k0_off93 v4 k0_t6 k0_t8) a + S1x1x16.size a ≤ S128x1x256.size a := fun i v4 k0_hw1 k0_t6 k0_t8 => k0_hw1.2.2.2.1.1 k0_t6 k0_t8
theorem k0_off94_inb : ∀ (i : grid0.Coords) (v4 : BitVec 32) (k0_hw1 : k0_chk1 i v4) (k0_t6 : Fin (k0_t6_loop v4).trips) (k0_t8 : Fin (k0_t8_loop v4 k0_t6).trips), ∀ a, (k0_off94 v4 k0_t6 k0_t8) a + S1x1x16.size a ≤ S128x1x256.size a := fun i v4 k0_hw1 k0_t6 k0_t8 => k0_hw1.2.2.2.1.2.1 k0_t6 k0_t8
theorem k0_off95_inb : ∀ (i : grid0.Coords) (v4 : BitVec 32) (k0_hw1 : k0_chk1 i v4) (k0_t6 : Fin (k0_t6_loop v4).trips) (k0_t8 : Fin (k0_t8_loop v4 k0_t6).trips), ∀ a, (k0_off95 v4 k0_t6 k0_t8) a + S1x1x16.size a ≤ S128x1x256.size a := fun i v4 k0_hw1 k0_t6 k0_t8 => k0_hw1.2.2.2.1.2.2.1 k0_t6 k0_t8
theorem k0_off96_inb : ∀ (i : grid0.Coords) (v4 : BitVec 32) (k0_hw1 : k0_chk1 i v4) (k0_t6 : Fin (k0_t6_loop v4).trips) (k0_t8 : Fin (k0_t8_loop v4 k0_t6).trips), ∀ a, (k0_off96 v4 k0_t6 k0_t8) a + S1x1x16.size a ≤ S128x1x256.size a := fun i v4 k0_hw1 k0_t6 k0_t8 => k0_hw1.2.2.2.1.2.2.2.1 k0_t6 k0_t8
theorem k0_off97_inb : ∀ (i : grid0.Coords) (v4 : BitVec 32) (k0_hw1 : k0_chk1 i v4) (k0_t6 : Fin (k0_t6_loop v4).trips) (k0_t8 : Fin (k0_t8_loop v4 k0_t6).trips), ∀ a, (k0_off97 v4 k0_t6 k0_t8) a + S1x1x16.size a ≤ S128x1x256.size a := fun i v4 k0_hw1 k0_t6 k0_t8 => k0_hw1.2.2.2.1.2.2.2.2.1 k0_t6 k0_t8
theorem k0_off98_inb : ∀ (i : grid0.Coords) (v4 : BitVec 32) (k0_hw1 : k0_chk1 i v4) (k0_t6 : Fin (k0_t6_loop v4).trips) (k0_t8 : Fin (k0_t8_loop v4 k0_t6).trips), ∀ a, (k0_off98 v4 k0_t6 k0_t8) a + S1x1x16.size a ≤ S128x1x256.size a := fun i v4 k0_hw1 k0_t6 k0_t8 => k0_hw1.2.2.2.1.2.2.2.2.2.1 k0_t6 k0_t8
theorem k0_off99_inb : ∀ (i : grid0.Coords) (v4 : BitVec 32) (k0_hw1 : k0_chk1 i v4) (k0_t6 : Fin (k0_t6_loop v4).trips) (k0_t8 : Fin (k0_t8_loop v4 k0_t6).trips), ∀ a, (k0_off99 v4 k0_t6 k0_t8) a + S1x1x16.size a ≤ S128x1x256.size a := fun i v4 k0_hw1 k0_t6 k0_t8 => k0_hw1.2.2.2.1.2.2.2.2.2.2.1 k0_t6 k0_t8
theorem k0_off100_inb : ∀ (i : grid0.Coords) (v4 : BitVec 32) (k0_hw1 : k0_chk1 i v4) (k0_t6 : Fin (k0_t6_loop v4).trips) (k0_t8 : Fin (k0_t8_loop v4 k0_t6).trips), ∀ a, (k0_off100 v4 k0_t6 k0_t8) a + S1x1x16.size a ≤ S128x1x256.size a := fun i v4 k0_hw1 k0_t6 k0_t8 => k0_hw1.2.2.2.1.2.2.2.2.2.2.2.1 k0_t6 k0_t8
theorem k0_off101_inb : ∀ (i : grid0.Coords) (v4 : BitVec 32) (k0_hw1 : k0_chk1 i v4) (k0_t6 : Fin (k0_t6_loop v4).trips) (k0_t8 : Fin (k0_t8_loop v4 k0_t6).trips), ∀ a, (k0_off101 v4 k0_t6 k0_t8) a + S1x1x16.size a ≤ S128x1x256.size a := fun i v4 k0_hw1 k0_t6 k0_t8 => k0_hw1.2.2.2.1.2.2.2.2.2.2.2.2.1 k0_t6 k0_t8
theorem k0_off102_inb : ∀ (i : grid0.Coords) (v4 : BitVec 32) (k0_hw1 : k0_chk1 i v4) (k0_t6 : Fin (k0_t6_loop v4).trips) (k0_t8 : Fin (k0_t8_loop v4 k0_t6).trips), ∀ a, (k0_off102 v4 k0_t6 k0_t8) a + S1x1x16.size a ≤ S128x1x256.size a := fun i v4 k0_hw1 k0_t6 k0_t8 => k0_hw1.2.2.2.1.2.2.2.2.2.2.2.2.2.1 k0_t6 k0_t8
theorem k0_off103_inb : ∀ (i : grid0.Coords) (v4 : BitVec 32) (k0_hw1 : k0_chk1 i v4) (k0_t6 : Fin (k0_t6_loop v4).trips), ∀ (k0_h3 : k0_cond3 v4 k0_t6 = 1#1), ∀ a, (k0_off103 i v4 k0_t6) a + S128x1x256.size a ≤ S4096x16x512.size a := fun i v4 k0_hw1 k0_t6 k0_h3 => k0_hw1.2.2.2.1.2.2.2.2.2.2.2.2.2.2.1 k0_t6 k0_h3
theorem k0_t9_ok : ∀ (i : grid0.Coords) (v4 : BitVec 32) (k0_hw1 : k0_chk1 i v4) (k0_t6 : Fin (k0_t6_loop v4).trips), (k0_t9_loop v4 k0_t6).OK := fun i v4 k0_hw1 k0_t6 => k0_hw1.2.2.2.1.2.2.2.2.2.2.2.2.2.2.2.1 k0_t6
theorem k0_off104_inb : ∀ (i : grid0.Coords) (v4 : BitVec 32) (k0_hw1 : k0_chk1 i v4) (k0_t6 : Fin (k0_t6_loop v4).trips) (k0_t9 : Fin (k0_t9_loop v4 k0_t6).trips), ∀ a, (k0_off104 v4 k0_t6 k0_t9) a + S1x1x16.size a ≤ S128x1x256.size a := fun i v4 k0_hw1 k0_t6 k0_t9 => k0_hw1.2.2.2.1.2.2.2.2.2.2.2.2.2.2.2.2.1 k0_t6 k0_t9
theorem k0_off105_inb : ∀ (i : grid0.Coords) (v4 : BitVec 32) (k0_hw1 : k0_chk1 i v4) (k0_t6 : Fin (k0_t6_loop v4).trips) (k0_t9 : Fin (k0_t9_loop v4 k0_t6).trips), ∀ a, (k0_off105 v4 k0_t6 k0_t9) a + S1x1x16.size a ≤ S128x1x256.size a := fun i v4 k0_hw1 k0_t6 k0_t9 => k0_hw1.2.2.2.1.2.2.2.2.2.2.2.2.2.2.2.2.2.1 k0_t6 k0_t9
theorem k0_off106_inb : ∀ (i : grid0.Coords) (v4 : BitVec 32) (k0_hw1 : k0_chk1 i v4) (k0_t6 : Fin (k0_t6_loop v4).trips) (k0_t9 : Fin (k0_t9_loop v4 k0_t6).trips), ∀ a, (k0_off106 v4 k0_t6 k0_t9) a + S1x1x16.size a ≤ S128x1x256.size a := fun i v4 k0_hw1 k0_t6 k0_t9 => k0_hw1.2.2.2.1.2.2.2.2.2.2.2.2.2.2.2.2.2.2.1 k0_t6 k0_t9
theorem k0_off107_inb : ∀ (i : grid0.Coords) (v4 : BitVec 32) (k0_hw1 : k0_chk1 i v4) (k0_t6 : Fin (k0_t6_loop v4).trips) (k0_t9 : Fin (k0_t9_loop v4 k0_t6).trips), ∀ a, (k0_off107 v4 k0_t6 k0_t9) a + S1x1x16.size a ≤ S128x1x256.size a := fun i v4 k0_hw1 k0_t6 k0_t9 => k0_hw1.2.2.2.1.2.2.2.2.2.2.2.2.2.2.2.2.2.2.2.1 k0_t6 k0_t9
theorem k0_off108_inb : ∀ (i : grid0.Coords) (v4 : BitVec 32) (k0_hw1 : k0_chk1 i v4) (k0_t6 : Fin (k0_t6_loop v4).trips) (k0_t9 : Fin (k0_t9_loop v4 k0_t6).trips), ∀ a, (k0_off108 v4 k0_t6 k0_t9) a + S1x1x16.size a ≤ S128x1x256.size a := fun i v4 k0_hw1 k0_t6 k0_t9 => k0_hw1.2.2.2.1.2.2.2.2.2.2.2.2.2.2.2.2.2.2.2.2.1 k0_t6 k0_t9
theorem k0_off109_inb : ∀ (i : grid0.Coords) (v4 : BitVec 32) (k0_hw1 : k0_chk1 i v4) (k0_t6 : Fin (k0_t6_loop v4).trips) (k0_t9 : Fin (k0_t9_loop v4 k0_t6).trips), ∀ a, (k0_off109 v4 k0_t6 k0_t9) a + S1x1x16.size a ≤ S128x1x256.size a := fun i v4 k0_hw1 k0_t6 k0_t9 => k0_hw1.2.2.2.1.2.2.2.2.2.2.2.2.2.2.2.2.2.2.2.2.2.1 k0_t6 k0_t9
theorem k0_off110_inb : ∀ (i : grid0.Coords) (v4 : BitVec 32) (k0_hw1 : k0_chk1 i v4) (k0_t6 : Fin (k0_t6_loop v4).trips) (k0_t9 : Fin (k0_t9_loop v4 k0_t6).trips), ∀ a, (k0_off110 v4 k0_t6 k0_t9) a + S1x1x16.size a ≤ S128x1x256.size a := fun i v4 k0_hw1 k0_t6 k0_t9 => k0_hw1.2.2.2.1.2.2.2.2.2.2.2.2.2.2.2.2.2.2.2.2.2.2.1 k0_t6 k0_t9
theorem k0_off111_inb : ∀ (i : grid0.Coords) (v4 : BitVec 32) (k0_hw1 : k0_chk1 i v4) (k0_t6 : Fin (k0_t6_loop v4).trips) (k0_t9 : Fin (k0_t9_loop v4 k0_t6).trips), ∀ a, (k0_off111 v4 k0_t6 k0_t9) a + S1x1x16.size a ≤ S128x1x256.size a := fun i v4 k0_hw1 k0_t6 k0_t9 => k0_hw1.2.2.2.1.2.2.2.2.2.2.2.2.2.2.2.2.2.2.2.2.2.2.2.1 k0_t6 k0_t9
theorem k0_off112_inb : ∀ (i : grid0.Coords) (v4 : BitVec 32) (k0_hw1 : k0_chk1 i v4) (k0_t6 : Fin (k0_t6_loop v4).trips) (k0_t9 : Fin (k0_t9_loop v4 k0_t6).trips), ∀ a, (k0_off112 v4 k0_t6 k0_t9) a + S1x1x16.size a ≤ S128x1x256.size a := fun i v4 k0_hw1 k0_t6 k0_t9 => k0_hw1.2.2.2.1.2.2.2.2.2.2.2.2.2.2.2.2.2.2.2.2.2.2.2.2.1 k0_t6 k0_t9
theorem k0_off113_inb : ∀ (i : grid0.Coords) (v4 : BitVec 32) (k0_hw1 : k0_chk1 i v4) (k0_t6 : Fin (k0_t6_loop v4).trips) (k0_t9 : Fin (k0_t9_loop v4 k0_t6).trips), ∀ a, (k0_off113 v4 k0_t6 k0_t9) a + S1x1x16.size a ≤ S128x1x256.size a := fun i v4 k0_hw1 k0_t6 k0_t9 => k0_hw1.2.2.2.1.2.2.2.2.2.2.2.2.2.2.2.2.2.2.2.2.2.2.2.2.2.1 k0_t6 k0_t9
theorem k0_off114_inb : ∀ (i : grid0.Coords) (v4 : BitVec 32) (k0_hw1 : k0_chk1 i v4) (k0_t6 : Fin (k0_t6_loop v4).trips) (k0_t9 : Fin (k0_t9_loop v4 k0_t6).trips), ∀ a, (k0_off114 v4 k0_t6 k0_t9) a + S1x1x16.size a ≤ S128x1x256.size a := fun i v4 k0_hw1 k0_t6 k0_t9 => k0_hw1.2.2.2.1.2.2.2.2.2.2.2.2.2.2.2.2.2.2.2.2.2.2.2.2.2.2.1 k0_t6 k0_t9
theorem k0_off115_inb : ∀ (i : grid0.Coords) (v4 : BitVec 32) (k0_hw1 : k0_chk1 i v4) (k0_t6 : Fin (k0_t6_loop v4).trips) (k0_t9 : Fin (k0_t9_loop v4 k0_t6).trips), ∀ a, (k0_off115 v4 k0_t6 k0_t9) a + S1x1x16.size a ≤ S128x1x256.size a := fun i v4 k0_hw1 k0_t6 k0_t9 => k0_hw1.2.2.2.1.2.2.2.2.2.2.2.2.2.2.2.2.2.2.2.2.2.2.2.2.2.2.2.1 k0_t6 k0_t9
theorem k0_off116_inb : ∀ (i : grid0.Coords) (v4 : BitVec 32) (k0_hw1 : k0_chk1 i v4) (k0_t6 : Fin (k0_t6_loop v4).trips) (k0_t9 : Fin (k0_t9_loop v4 k0_t6).trips), ∀ a, (k0_off116 v4 k0_t6 k0_t9) a + S1x1x16.size a ≤ S128x1x256.size a := fun i v4 k0_hw1 k0_t6 k0_t9 => k0_hw1.2.2.2.1.2.2.2.2.2.2.2.2.2.2.2.2.2.2.2.2.2.2.2.2.2.2.2.2.1 k0_t6 k0_t9
theorem k0_off117_inb : ∀ (i : grid0.Coords) (v4 : BitVec 32) (k0_hw1 : k0_chk1 i v4) (k0_t6 : Fin (k0_t6_loop v4).trips) (k0_t9 : Fin (k0_t9_loop v4 k0_t6).trips), ∀ a, (k0_off117 v4 k0_t6 k0_t9) a + S1x1x16.size a ≤ S128x1x256.size a := fun i v4 k0_hw1 k0_t6 k0_t9 => k0_hw1.2.2.2.1.2.2.2.2.2.2.2.2.2.2.2.2.2.2.2.2.2.2.2.2.2.2.2.2.2.1 k0_t6 k0_t9
theorem k0_off118_inb : ∀ (i : grid0.Coords) (v4 : BitVec 32) (k0_hw1 : k0_chk1 i v4) (k0_t6 : Fin (k0_t6_loop v4).trips) (k0_t9 : Fin (k0_t9_loop v4 k0_t6).trips), ∀ a, (k0_off118 v4 k0_t6 k0_t9) a + S1x1x16.size a ≤ S128x1x256.size a := fun i v4 k0_hw1 k0_t6 k0_t9 => k0_hw1.2.2.2.1.2.2.2.2.2.2.2.2.2.2.2.2.2.2.2.2.2.2.2.2.2.2.2.2.2.2.1 k0_t6 k0_t9
theorem k0_off119_inb : ∀ (i : grid0.Coords) (v4 : BitVec 32) (k0_hw1 : k0_chk1 i v4) (k0_t6 : Fin (k0_t6_loop v4).trips) (k0_t9 : Fin (k0_t9_loop v4 k0_t6).trips), ∀ a, (k0_off119 v4 k0_t6 k0_t9) a + S1x1x16.size a ≤ S128x1x256.size a := fun i v4 k0_hw1 k0_t6 k0_t9 => k0_hw1.2.2.2.1.2.2.2.2.2.2.2.2.2.2.2.2.2.2.2.2.2.2.2.2.2.2.2.2.2.2.2.1 k0_t6 k0_t9
theorem k0_t10_ok : ∀ (i : grid0.Coords) (v4 : BitVec 32) (k0_hw1 : k0_chk1 i v4) (k0_t6 : Fin (k0_t6_loop v4).trips), (k0_t10_loop v4 k0_t6).OK := fun i v4 k0_hw1 k0_t6 => k0_hw1.2.2.2.1.2.2.2.2.2.2.2.2.2.2.2.2.2.2.2.2.2.2.2.2.2.2.2.2.2.2.2.2.1 k0_t6
theorem k0_off120_inb : ∀ (i : grid0.Coords) (v4 : BitVec 32) (k0_hw1 : k0_chk1 i v4) (k0_t6 : Fin (k0_t6_loop v4).trips) (k0_t10 : Fin (k0_t10_loop v4 k0_t6).trips), ∀ a, (k0_off120 v4 k0_t6 k0_t10) a + S1x1x16.size a ≤ S128x1x256.size a := fun i v4 k0_hw1 k0_t6 k0_t10 => k0_hw1.2.2.2.1.2.2.2.2.2.2.2.2.2.2.2.2.2.2.2.2.2.2.2.2.2.2.2.2.2.2.2.2.2.1 k0_t6 k0_t10
theorem k0_off121_inb : ∀ (i : grid0.Coords) (v4 : BitVec 32) (k0_hw1 : k0_chk1 i v4) (k0_t6 : Fin (k0_t6_loop v4).trips) (k0_t10 : Fin (k0_t10_loop v4 k0_t6).trips), ∀ a, (k0_off121 v4 k0_t6 k0_t10) a + S1x1x16.size a ≤ S128x1x256.size a := fun i v4 k0_hw1 k0_t6 k0_t10 => k0_hw1.2.2.2.1.2.2.2.2.2.2.2.2.2.2.2.2.2.2.2.2.2.2.2.2.2.2.2.2.2.2.2.2.2.2.1 k0_t6 k0_t10
theorem k0_off122_inb : ∀ (i : grid0.Coords) (v4 : BitVec 32) (k0_hw1 : k0_chk1 i v4) (k0_t6 : Fin (k0_t6_loop v4).trips) (k0_t10 : Fin (k0_t10_loop v4 k0_t6).trips), ∀ a, (k0_off122 v4 k0_t6 k0_t10) a + S1x1x16.size a ≤ S128x1x256.size a := fun i v4 k0_hw1 k0_t6 k0_t10 => k0_hw1.2.2.2.1.2.2.2.2.2.2.2.2.2.2.2.2.2.2.2.2.2.2.2.2.2.2.2.2.2.2.2.2.2.2.2 k0_t6 k0_t10
theorem k0_off123_inb : ∀ (i : grid0.Coords) (v4 : BitVec 32) (k0_hw1 : k0_chk1 i v4) (k0_t6 : Fin (k0_t6_loop v4).trips) (k0_t10 : Fin (k0_t10_loop v4 k0_t6).trips), ∀ a, (k0_off123 v4 k0_t6 k0_t10) a + S1x1x16.size a ≤ S128x1x256.size a := fun i v4 k0_hw1 k0_t6 k0_t10 => k0_hw1.2.2.2.2.1 k0_t6 k0_t10
theorem k0_off124_inb : ∀ (i : grid0.Coords) (v4 : BitVec 32) (k0_hw1 : k0_chk1 i v4) (k0_t6 : Fin (k0_t6_loop v4).trips) (k0_t10 : Fin (k0_t10_loop v4 k0_t6).trips), ∀ a, (k0_off124 v4 k0_t6 k0_t10) a + S1x1x16.size a ≤ S128x1x256.size a := fun i v4 k0_hw1 k0_t6 k0_t10 => k0_hw1.2.2.2.2.2.1 k0_t6 k0_t10
theorem k0_off125_inb : ∀ (i : grid0.Coords) (v4 : BitVec 32) (k0_hw1 : k0_chk1 i v4) (k0_t6 : Fin (k0_t6_loop v4).trips) (k0_t10 : Fin (k0_t10_loop v4 k0_t6).trips), ∀ a, (k0_off125 v4 k0_t6 k0_t10) a + S1x1x16.size a ≤ S128x1x256.size a := fun i v4 k0_hw1 k0_t6 k0_t10 => k0_hw1.2.2.2.2.2.2.1 k0_t6 k0_t10
theorem k0_off126_inb : ∀ (i : grid0.Coords) (v4 : BitVec 32) (k0_hw1 : k0_chk1 i v4) (k0_t6 : Fin (k0_t6_loop v4).trips) (k0_t10 : Fin (k0_t10_loop v4 k0_t6).trips), ∀ a, (k0_off126 v4 k0_t6 k0_t10) a + S1x1x16.size a ≤ S128x1x256.size a := fun i v4 k0_hw1 k0_t6 k0_t10 => k0_hw1.2.2.2.2.2.2.2.1 k0_t6 k0_t10
theorem k0_off127_inb : ∀ (i : grid0.Coords) (v4 : BitVec 32) (k0_hw1 : k0_chk1 i v4) (k0_t6 : Fin (k0_t6_loop v4).trips) (k0_t10 : Fin (k0_t10_loop v4 k0_t6).trips), ∀ a, (k0_off127 v4 k0_t6 k0_t10) a + S1x1x16.size a ≤ S128x1x256.size a := fun i v4 k0_hw1 k0_t6 k0_t10 => k0_hw1.2.2.2.2.2.2.2.2.1 k0_t6 k0_t10
theorem k0_off128_inb : ∀ (i : grid0.Coords) (v4 : BitVec 32) (k0_hw1 : k0_chk1 i v4) (k0_t6 : Fin (k0_t6_loop v4).trips) (k0_t10 : Fin (k0_t10_loop v4 k0_t6).trips), ∀ a, (k0_off128 v4 k0_t6 k0_t10) a + S1x1x16.size a ≤ S128x1x256.size a := fun i v4 k0_hw1 k0_t6 k0_t10 => k0_hw1.2.2.2.2.2.2.2.2.2.1 k0_t6 k0_t10
theorem k0_off129_inb : ∀ (i : grid0.Coords) (v4 : BitVec 32) (k0_hw1 : k0_chk1 i v4) (k0_t6 : Fin (k0_t6_loop v4).trips) (k0_t10 : Fin (k0_t10_loop v4 k0_t6).trips), ∀ a, (k0_off129 v4 k0_t6 k0_t10) a + S1x1x16.size a ≤ S128x1x256.size a := fun i v4 k0_hw1 k0_t6 k0_t10 => k0_hw1.2.2.2.2.2.2.2.2.2.2.1 k0_t6 k0_t10
theorem k0_off130_inb : ∀ (i : grid0.Coords) (v4 : BitVec 32) (k0_hw1 : k0_chk1 i v4) (k0_t6 : Fin (k0_t6_loop v4).trips) (k0_t10 : Fin (k0_t10_loop v4 k0_t6).trips), ∀ a, (k0_off130 v4 k0_t6 k0_t10) a + S1x1x16.size a ≤ S128x1x256.size a := fun i v4 k0_hw1 k0_t6 k0_t10 => k0_hw1.2.2.2.2.2.2.2.2.2.2.2.1 k0_t6 k0_t10
theorem k0_off131_inb : ∀ (i : grid0.Coords) (v4 : BitVec 32) (k0_hw1 : k0_chk1 i v4) (k0_t6 : Fin (k0_t6_loop v4).trips) (k0_t10 : Fin (k0_t10_loop v4 k0_t6).trips), ∀ a, (k0_off131 v4 k0_t6 k0_t10) a + S1x1x16.size a ≤ S128x1x256.size a := fun i v4 k0_hw1 k0_t6 k0_t10 => k0_hw1.2.2.2.2.2.2.2.2.2.2.2.2.1 k0_t6 k0_t10
theorem k0_off132_inb : ∀ (i : grid0.Coords) (v4 : BitVec 32) (k0_hw1 : k0_chk1 i v4) (k0_t6 : Fin (k0_t6_loop v4).trips) (k0_t10 : Fin (k0_t10_loop v4 k0_t6).trips), ∀ a, (k0_off132 v4 k0_t6 k0_t10) a + S1x1x16.size a ≤ S128x1x256.size a := fun i v4 k0_hw1 k0_t6 k0_t10 => k0_hw1.2.2.2.2.2.2.2.2.2.2.2.2.2.1 k0_t6 k0_t10
theorem k0_off133_inb : ∀ (i : grid0.Coords) (v4 : BitVec 32) (k0_hw1 : k0_chk1 i v4) (k0_t6 : Fin (k0_t6_loop v4).trips) (k0_t10 : Fin (k0_t10_loop v4 k0_t6).trips), ∀ a, (k0_off133 v4 k0_t6 k0_t10) a + S1x1x16.size a ≤ S128x1x256.size a := fun i v4 k0_hw1 k0_t6 k0_t10 => k0_hw1.2.2.2.2.2.2.2.2.2.2.2.2.2.2.1 k0_t6 k0_t10
theorem k0_off134_inb : ∀ (i : grid0.Coords) (v4 : BitVec 32) (k0_hw1 : k0_chk1 i v4) (k0_t6 : Fin (k0_t6_loop v4).trips) (k0_t10 : Fin (k0_t10_loop v4 k0_t6).trips), ∀ a, (k0_off134 v4 k0_t6 k0_t10) a + S1x1x16.size a ≤ S128x1x256.size a := fun i v4 k0_hw1 k0_t6 k0_t10 => k0_hw1.2.2.2.2.2.2.2.2.2.2.2.2.2.2.2.1 k0_t6 k0_t10
theorem k0_off135_inb : ∀ (i : grid0.Coords) (v4 : BitVec 32) (k0_hw1 : k0_chk1 i v4) (k0_t6 : Fin (k0_t6_loop v4).trips) (k0_t10 : Fin (k0_t10_loop v4 k0_t6).trips), ∀ a, (k0_off135 v4 k0_t6 k0_t10) a + S1x1x16.size a ≤ S128x1x256.size a := fun i v4 k0_hw1 k0_t6 k0_t10 => k0_hw1.2.2.2.2.2.2.2.2.2.2.2.2.2.2.2.2.1 k0_t6 k0_t10
theorem k0_off136_inb : ∀ (i : grid0.Coords) (v4 : BitVec 32) (k0_hw1 : k0_chk1 i v4) (k0_t6 : Fin (k0_t6_loop v4).trips), ∀ (k0_h4 : k0_cond4 v4 k0_t6 = 1#1), ∀ a, (k0_off136 i v4 k0_t6) a + S128x1x256.size a ≤ S4096x16x512.size a := fun i v4 k0_hw1 k0_t6 k0_h4 => k0_hw1.2.2.2.2.2.2.2.2.2.2.2.2.2.2.2.2.2.1 k0_t6 k0_h4
theorem k0_off137_inb : ∀ (i : grid0.Coords) (v4 : BitVec 32) (k0_hw1 : k0_chk1 i v4), ∀ a, (k0_off137 i v4) a + S1x1x256.size a ≤ S4096x16x512.size a := fun i v4 k0_hw1 => k0_hw1.2.2.2.2.2.2.2.2.2.2.2.2.2.2.2.2.2.2

def k0_off138 (i : grid0.Coords) (c0_i32_171 : BitVec 32) : Fin 2 → Nat :=
  let arg1 : BitVec 32 := BitVec.ofNat 32 (i 1).val
  let arg0 : BitVec 32 := BitVec.ofNat 32 (i 0).val
  let c256_i32_170 : BitVec 32 := 256#32
  let v360 : BitVec 32 := Scalar.muli arg0 c256_i32_170
  let v361 : BitVec 32 := Scalar.addi c0_i32_171 v360
  ![arg1.toNat, v361.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x16x512 : Shape := ⟨3, ![4096, 16, 512]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x16x1 : Shape := ⟨3, ![4096, 16, 1]⟩
abbrev S_ : Shape := ⟨0, ![]⟩
abbrev S16x512 : Shape := ⟨2, ![16, 512]⟩
abbrev S16x1 : Shape := ⟨2, ![16, 1]⟩
abbrev S16x2 : Shape := ⟨2, ![16, 2]⟩
abbrev S16x1536 : Shape := ⟨2, ![16, 1536]⟩

abbrev nBuf : Space → Nat
  | .hbm => 50
  | .vmem => 0
  | .smem => 0
  | _ => 0

abbrev bufTy : (tb : Table) → Fin (tcTables nBuf tb) → BufTy
  | .hbm, ⟨0, _⟩ => ⟨S4096x16x512, .f32⟩
  | .hbm, ⟨1, _⟩ => ⟨S16, .i32⟩
  | .hbm, ⟨2, _⟩ => ⟨S4096, .i32⟩
  | .hbm, ⟨3, _⟩ => ⟨S4096x1, .i32⟩
  | .hbm, ⟨4, _⟩ => ⟨S1x16, .i32⟩
  | .hbm, ⟨5, _⟩ => ⟨S4096x16, .i32⟩
  | .hbm, ⟨6, _⟩ => ⟨S4096x16, .i32⟩
  | .hbm, ⟨7, _⟩ => ⟨S4096x16, .i1⟩
  | .hbm, ⟨8, _⟩ => ⟨S4096x16x1, .i1⟩
  | .hbm, ⟨9, _⟩ => ⟨S_, .f32⟩
  | .hbm, ⟨10, _⟩ => ⟨S_, .f32⟩
  | .hbm, ⟨11, _⟩ => ⟨S4096x16x512, .i1⟩
  | .hbm, ⟨12, _⟩ => ⟨S4096x16x512, .f32⟩
  | .hbm, ⟨13, _⟩ => ⟨S4096x16x512, .f32⟩
  | .hbm, ⟨14, _⟩ => ⟨S_, .f32⟩
  | .hbm, ⟨15, _⟩ => ⟨S16x512, .f32⟩
  | .hbm, ⟨16, _⟩ => ⟨S16x1, .i32⟩
  | .hbm, ⟨17, _⟩ => ⟨S16x1, .f32⟩
  | .hbm, ⟨18, _⟩ => ⟨S16x512, .f32⟩
  | .hbm, ⟨19, _⟩ => ⟨S16x512, .f32⟩
  | .hbm, ⟨20, _⟩ => ⟨S_, .f32⟩
  | .hbm, ⟨21, _⟩ => ⟨S_, .f32⟩
  | .hbm, ⟨22, _⟩ => ⟨S4096x16x512, .i1⟩
  | .hbm, ⟨23, _⟩ => ⟨S4096x16x512, .f32⟩
  | .hbm, ⟨24, _⟩ => ⟨S4096x16x512, .f32⟩
  | .hbm, ⟨25, _⟩ => ⟨S_, .f32⟩
  | .hbm, ⟨26, _⟩ => ⟨S16x512, .f32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i1⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S_, .i32⟩
  | .hbm, ⟨39, _⟩ => ⟨S16, .i32⟩
  | .hbm, ⟨40, _⟩ => ⟨S16, .i1⟩
  | .hbm, ⟨41, _⟩ => ⟨S_, .i32⟩
  | .hbm, ⟨42, _⟩ => ⟨S16, .i32⟩
  | .hbm, ⟨43, _⟩ => ⟨S16, .i32⟩
  | .hbm, ⟨44, _⟩ => ⟨S16, .i32⟩
  | .hbm, ⟨45, _⟩ => ⟨S16x1, .i32⟩
  | .hbm, ⟨46, _⟩ => ⟨S16x1, .i32⟩
  | .hbm, ⟨47, _⟩ => ⟨S16x2, .i32⟩
  | .hbm, ⟨48, _⟩ => ⟨S16x512, .f32⟩
  | .hbm, ⟨49, _⟩ => ⟨S16x1536, .f32⟩
  | _, _ => ⟨S4096x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proof.Words.lean ====
/-
  The kernel's integer chains as natural numbers. A tile's sequence length `n` is between 1 and 4096; the kernel walks
  `pairs n` pairs of 128-row chunks, of which chunk `k` holds `rowsIn n k` rows of the sequence.
-/
module

public import proofs.«01_k».proof.Defs
public import proofs.«01_k».proof.Proof.Gen.KernelIdeal
public import Idealize.ShloMosaic.Lib.LoopRemainder

@[expose] public section

noncomputable section

namespace Cert.Proof.Pool

open Cert.KernelIdeal Cert.KernelIdeal.Gen
open Idealize.ShloMosaic

/-- The pairs of chunks a sequence of `n` rows is walked in. -/
def pairs (n : ℕ) : ℕ := ((n + 127) / 128 + 1) / 2

/-- The rows of chunk `k` that belong to a sequence of `n` rows. -/
def rowsIn (n k : ℕ) : ℕ := min 128 (n - 128 * k)

/-! ## The chains at a word -/

/-- The floor division as the kernel spells it on words. -/
def fdivW (x c : BitVec 32) : BitVec 32 :=
  Scalar.select
    (Scalar.andi
      (Scalar.cmpi .ne (Scalar.subi (Scalar.extui (Scalar.cmpi .sgt x 0#32) : BitVec 32) (Scalar.extui (Scalar.cmpi .slt x 0#32)))
        (Scalar.subi (Scalar.extui (Scalar.cmpi .sgt c 0#32) : BitVec 32) (Scalar.extui (Scalar.cmpi .slt c 0#32))))
      (Scalar.cmpi .ne (Scalar.remsi x c) 0#32))
    (Scalar.subi (Scalar.divsi x c) 1#32) (Scalar.divsi x c)

/-- The number of chunks, rounded up to an even one. -/
def npadW (v : BitVec 32) : BitVec 32 :=
  Scalar.muli (fdivW (Scalar.addi (fdivW (Scalar.addi v 127#32) 128#32) 1#32) 2#32) 2#32

theorem npadW_eq : ∀ n < 4097, npadW (BitVec.ofNat 32 n) = BitVec.ofNat 32 (2 * pairs n) := by decide +kernel

theorem fdivW_two : ∀ n < 33, fdivW (BitVec.ofNat 32 (2 * n)) 2#32 = BitVec.ofNat 32 n := by decide +kernel

theorem pairs_le {n : ℕ} (h : n ≤ 4096) : pairs n ≤ 16 := by unfold pairs; omega
theorem pairs_pos {n : ℕ} (h : 1 ≤ n) : 1 ≤ pairs n := by unfold pairs; omega

theorem steps_one (x : BitVec 32) : Scalar.addi 0#32 (Scalar.muli (Scalar.divsi (Scalar.subi x 0#32) 1#32) 1#32) = x := by
  rw [Scalar.muli_divsi_one]; simp [Scalar.addi, Scalar.subi, IntOp.addi, IntOp.subi]

theorem trips_ofNat {n : ℕ} (h : n < 2 ^ 31) : Scf.trips 0#32 (BitVec.ofNat 32 n) 1#32 = n := by
  unfold Scf.trips
  rw [WordArith.toInt_ofNat_small n h, show (1#32 : BitVec 32).toInt = 1 by decide, show (0#32 : BitVec 32).toInt = 0 by decide]
  omega

theorem ok_ofNat {n : ℕ} (h : n < 2 ^ 31) : Scf.OK 0#32 (BitVec.ofNat 32 n) 1#32 := by
  refine ⟨by decide, ?_⟩
  rw [trips_ofNat h, show (1#32 : BitVec 32).toInt = 1 by decide, show (0#32 : BitVec 32).toInt = 0 by decide]
  omega

theorem iv_eq (k : ℕ) : Scf.iv 0#32 1#32 k = BitVec.ofNat 32 k := by simp [Scf.iv]

/-! ## The pair loop -/

section Len
variable {v : BitVec 32} (h1 : 1 ≤ v.toNat) (h2 : v.toNat ≤ 4096)

theorem word_eq (v : BitVec 32) : v = BitVec.ofNat 32 v.toNat := by simp

include h2 in
theorem t1_ub : (k0_t1_loop v).ub = BitVec.ofNat 32 (pairs v.toNat) := by
  show Scalar.addi 0#32 (Scalar.muli (Scalar.divsi (Scalar.subi (fdivW (npadW v) 2#32) 0#32) 1#32) 1#32) = _
  rw [steps_one]
  have e : npadW v = _ := (congrArg npadW (word_eq v)).trans (npadW_eq v.toNat (by omega))
  have := pairs_le h2
  rw [e, fdivW_two _ (by omega)]

include h2 in
theorem t1_trips : (k0_t1_loop v).trips = pairs v.toNat := by
  show Scf.trips 0#32 (k0_t1_loop v).ub 1#32 = _
  rw [t1_ub h2]; exact trips_ofNat (by have := pairs_le h2; omega)

include h2 in
theorem t1_lt (p : Fin (k0_t1_loop v).trips) : p.val < pairs v.toNat := lt_of_lt_of_eq p.isLt (t1_trips h2)

/-! ## The row loops -/

include h2 in
/-- The rows of chunk `k`, as the kernel computes them from the word of `128 k`. -/
theorem rows_word {k : ℕ} (hk : k < 32) :
    Scalar.maxsi 0#32 (Scalar.minsi 128#32 (Scalar.subi v (BitVec.ofNat 32 (128 * k)))) = BitVec.ofNat 32 (rowsIn v.toNat k) := by
  have hv : v.toInt = v.toNat := by rw [BitVec.toInt_eq_toNat_of_lt (by omega)]
  have hs : (Scalar.subi v (BitVec.ofNat 32 (128 * k))).toInt = (v.toNat : Int) - 128 * k := by
    show (v - _).toInt = _
    rw [WordArith.toInt_sub_of_bounds _ _ (by rw [WordArith.toInt_ofNat_small _ (by omega)]; omega)
      (by rw [WordArith.toInt_ofNat_small _ (by omega)]; omega), WordArith.toInt_ofNat_small _ (by omega), hv]
    push_cast; rfl
  generalize Scalar.subi v (BitVec.ofNat 32 (128 * k)) = s at hs
  apply BitVec.eq_of_toInt_eq
  show (IntOp.maxsi 0#32 (IntOp.minsi 128#32 s)).toInt = _
  rw [WordArith.toInt_maxsi_zero, WordArith.toInt_ofNat_small _ (by unfold rowsIn; omega)]
  have hm : (IntOp.minsi 128#32 s).toInt = min 128 s.toInt := by
    unfold IntOp.minsi
    simp only [BitVec.sle_eq_decide, BitVec.slt_eq_decide, show (128#32 : BitVec 32).toInt = 128 by decide]
    split <;> simp_all <;> omega
  rw [hm, hs]; unfold rowsIn; omega

theorem sub_unit (x : BitVec 32) :
    Scalar.divsi (Scalar.addi (Scalar.subi x 0#32) (Scalar.subi 1#32 1#32)) 1#32 = x := by
  simp only [Scalar.divsi, WordArith.divsi_one]; simp [Scalar.addi, Scalar.subi, IntOp.addi, IntOp.subi]

theorem chunk_word (p j : ℕ) :
    Scalar.muli (Scalar.addi (Scalar.muli 2#32 (Scf.iv 0#32 1#32 p)) (BitVec.ofNat 32 j)) 128#32 = BitVec.ofNat 32 (128 * (2 * p + j)) := by
  rw [iv_eq]
  simp only [Scalar.muli, Scalar.addi, IntOp.muli, IntOp.addi]
  rw [← BitVec.ofNat_mul, ← BitVec.ofNat_add, ← BitVec.ofNat_mul, Nat.mul_comm]

include h2 in
theorem t2_ub (p : Fin (k0_t1_loop v).trips) : (k0_t2_loop v p).ub = BitVec.ofNat 32 (rowsIn v.toNat (2 * p.val)) := by
  show Scalar.addi 0#32 (Scalar.muli (Scalar.divsi (Scalar.subi (Scalar.divsi (Scalar.addi (Scalar.subi
    (Scalar.maxsi 0#32 (Scalar.minsi 128#32 (Scalar.subi v (Scalar.muli (Scalar.addi (Scalar.muli 2#32 (Scf.iv 0#32 1#32 p)) (BitVec.ofNat 32 0)) 128#32))))
    0#32) (Scalar.subi 1#32 1#32)) 1#32) 0#32) 1#32) 1#32) = _
  have := t1_lt h2 p; have := pairs_le h2
  rw [steps_one, sub_unit, chunk_word, rows_word h2 (by omega)]; rfl

include h2 in
theorem t4_ub (p : Fin (k0_t1_loop v).trips) : (k0_t4_loop v p).ub = BitVec.ofNat 32 (rowsIn v.toNat (2 * p.val + 1)) := by
  show Scalar.addi 0#32 (Scalar.muli (Scalar.divsi (Scalar.subi (Scalar.divsi (Scalar.addi (Scalar.subi
    (Scalar.maxsi 0#32 (Scalar.minsi 128#32 (Scalar.subi v (Scalar.muli (Scalar.addi (Scalar.muli 2#32 (Scf.iv 0#32 1#32 p)) (BitVec.ofNat 32 1)) 128#32))))
    0#32) (Scalar.subi 1#32 1#32)) 1#32) 0#32) 1#32) 1#32) = _
  have := t1_lt h2 p; have := pairs_le h2
  rw [steps_one, sub_unit, chunk_word, rows_word h2 (by omega)]

theorem rowsIn_le (n k : ℕ) : rowsIn n k ≤ 128 := by unfold rowsIn; omega

include h2 in
theorem t2_trips (p : Fin (k0_t1_loop v).trips) : (k0_t2_loop v p).trips = rowsIn v.toNat (2 * p.val) := by
  show Scf.trips 0#32 (k0_t2_loop v p).ub 1#32 = _
  rw [t2_ub h2]; exact trips_ofNat (by have := rowsIn_le v.toNat (2 * p.val); omega)

include h2 in
theorem t4_trips (p : Fin (k0_t1_loop v).trips) : (k0_t4_loop v p).trips = rowsIn v.toNat (2 * p.val + 1) := by
  show Scf.trips 0#32 (k0_t4_loop v p).ub 1#32 = _
  rw [t4_ub h2]; exact trips_ofNat (by have := rowsIn_le v.toNat (2 * p.val + 1); omega)

include h2 in
theorem t2_lt (p : Fin (k0_t1_loop v).trips) (r : Fin (k0_t2_loop v p).trips) : r.val < 128 :=
  lt_of_lt_of_le (lt_of_lt_of_eq r.isLt (t2_trips h2 p)) (rowsIn_le _ _)
include h2 in
theorem t4_lt (p : Fin (k0_t1_loop v).trips) (r : Fin (k0_t4_loop v p).trips) : r.val < 128 :=
  lt_of_lt_of_le (lt_of_lt_of_eq r.isLt (t4_trips h2 p)) (rowsIn_le _ _)

/-! ## Whether a chunk two further on is fetched -/

theorem next_word (p j : ℕ) :
    Scalar.addi (Scalar.addi (Scalar.muli 2#32 (Scf.iv 0#32 1#32 p)) (BitVec.ofNat 32 j)) 2#32 = BitVec.ofNat 32 (2 * p + j + 2) := by
  rw [iv_eq]
  simp only [Scalar.muli, Scalar.addi, IntOp.muli, IntOp.addi]
  rw [← BitVec.ofNat_mul, ← BitVec.ofNat_add, ← BitVec.ofNat_add]

theorem lt_word {a b : ℕ} (ha : a < 2 ^ 31) (hb : b < 2 ^ 31) :
    Scalar.cmpi .ne (Scalar.extui (Scalar.cmpi .slt (BitVec.ofNat 32 a) (BitVec.ofNat 32 b)) : BitVec 32) 0#32 = 1#1 ↔ a < b := by
  have : ∀ c : Bool, (Scalar.cmpi .ne (Scalar.extui (BitVec.ofBool c) : BitVec 32) 0#32 = 1#1) ↔ c = true := by decide
  show Scalar.cmpi .ne (Scalar.extui (BitVec.ofBool ((BitVec.ofNat 32 a).slt (BitVec.ofNat 32 b))) : BitVec 32) 0#32 = 1#1 ↔ _
  rw [this, BitVec.slt_eq_decide, WordArith.toInt_ofNat_small a ha, WordArith.toInt_ofNat_small b hb]
  simp

include h2 in
theorem cond1_iff (p : Fin (k0_t1_loop v).trips) : k0_cond1 v p = 1#1 ↔ p.val + 1 < pairs v.toNat := by
  have := t1_lt h2 p; have := pairs_le h2
  show Scalar.cmpi .ne (Scalar.extui (Scalar.cmpi .slt
    (Scalar.addi (Scalar.addi (Scalar.muli 2#32 (Scf.iv 0#32 1#32 p)) (BitVec.ofNat 32 0)) 2#32) (npadW v)) : BitVec 32) 0#32 = 1#1 ↔ _
  rw [next_word, show npadW v = _ from (congrArg npadW (word_eq v)).trans (npadW_eq v.toNat (by omega)), lt_word (by omega) (by omega)]
  omega

include h2 in
theorem cond2_iff (p : Fin (k0_t1_loop v).trips) : k0_cond2 v p = 1#1 ↔ p.val + 1 < pairs v.toNat := by
  have := t1_lt h2 p; have := pairs_le h2
  show Scalar.cmpi .ne (Scalar.extui (Scalar.cmpi .slt
    (Scalar.addi (Scalar.addi (Scalar.muli 2#32 (Scf.iv 0#32 1#32 p)) (BitVec.ofNat 32 1)) 2#32) (npadW v)) : BitVec 32) 0#32 = 1#1 ↔ _
  rw [next_word, show npadW v = _ from (congrArg npadW (word_eq v)).trans (npadW_eq v.toNat (by omega)), lt_word (by omega) (by omega)]
  omega

/-! ## Offsets -/

/-- The offsets of the sixteen lanes from column `c` of a chunk's row `k`, as the kernel computes them. -/
def rowOff (k c : ℕ) : Fin 3 → ℕ :=
  ![(Scalar.indexCast (Scalar.addi 0#32 (Scalar.muli (Scf.iv 0#32 1#32 k) 1#32)) : Index).toNat, 0, c]

theorem rowOff_eq {k c : ℕ} (hk : k < 128) : rowOff k c = ![k, 0, c] := by
  unfold rowOff
  rw [iv_eq]
  congr 1
  simp [Scalar.indexCast, Scalar.addi, Scalar.muli, IntOp.addi, IntOp.muli]
  omega

theorem row_inb {off : Fin 3 → ℕ} {k c : ℕ} (h : off = rowOff k c) (hk : k < 128) (hc : c + 16 ≤ 256) :
    ∀ a, off a + S1x1x16.size a ≤ S128x1x256.size a := by
  rw [h, rowOff_eq hk]
  intro a; fin_cases a <;> simp [S1x1x16, S128x1x256] <;> omega

/-- The offsets of chunk `k` of tile `i`'s columns. -/
def chunkOff (i : grid0.Coords) (k : ℕ) : Fin 3 → ℕ := ![128 * k, (i 1).val, 256 * (i 0).val]

theorem tile_words (i : grid0.Coords) :
    (BitVec.ofNat 32 (i 1).val).toNat = (i 1).val ∧ (Scalar.muli (BitVec.ofNat 32 (i 0).val) 256#32).toNat = 256 * (i 0).val := by
  have h0 : (i 0).val < 2 := (i 0).isLt
  have h1 : (i 1).val < 16 := (i 1).isLt
  simp [Scalar.muli, IntOp.muli]; omega

theorem clamp_word {k : ℕ} (hk : k < 32) :
    (Scalar.minsi (BitVec.ofNat 32 (128 * k)) 3968#32).toNat = 128 * k := by
  show (IntOp.minsi _ _).toNat = _
  rw [WordArith.toNat_minsi_of_lt _ _ (by simp; omega) (by decide)]
  simp; omega

theorem off2_eq (i : grid0.Coords) {k : ℕ} (hk : k < 32) : k0_off2 i (BitVec.ofNat 32 (128 * k)) = chunkOff i k := by
  unfold k0_off2 chunkOff
  simp only [tile_words, clamp_word hk]

theorem next_chunk_word (p j : ℕ) :
    Scalar.muli (Scalar.addi (Scalar.addi (Scalar.muli 2#32 (Scf.iv 0#32 1#32 p)) (BitVec.ofNat 32 j)) 2#32) 128#32
      = BitVec.ofNat 32 (128 * (2 * p + j + 2)) := by
  rw [next_word]
  simp only [Scalar.muli, IntOp.muli]
  rw [← BitVec.ofNat_mul, Nat.mul_comm]

include h2 in
theorem off36_eq (i : grid0.Coords) (p : Fin (k0_t1_loop v).trips) (hp : p.val + 1 < pairs v.toNat) :
    k0_off36 i v p = chunkOff i (2 * (p.val + 1)) := by
  have := pairs_le h2
  show ![(Scalar.minsi (Scalar.muli (Scalar.addi (Scalar.addi (Scalar.muli 2#32 (Scf.iv 0#32 1#32 p)) (BitVec.ofNat 32 0)) 2#32) 128#32) 3968#32).toNat,
    (BitVec.ofNat 32 (i 1).val).toNat, (Scalar.muli (BitVec.ofNat 32 (i 0).val) 256#32).toNat] = _
  rw [next_chunk_word, clamp_word (by omega), (tile_words i).1, (tile_words i).2]; rfl

include h2 in
theorem off69_eq (i : grid0.Coords) (p : Fin (k0_t1_loop v).trips) (hp : p.val + 1 < pairs v.toNat) :
    k0_off69 i v p = chunkOff i (2 * (p.val + 1) + 1) := by
  have := pairs_le h2
  show ![(Scalar.minsi (Scalar.muli (Scalar.addi (Scalar.addi (Scalar.muli 2#32 (Scf.iv 0#32 1#32 p)) (BitVec.ofNat 32 1)) 2#32) 128#32) 3968#32).toNat,
    (BitVec.ofNat 32 (i 1).val).toNat, (Scalar.muli (BitVec.ofNat 32 (i 0).val) 256#32).toNat] = _
  rw [next_chunk_word, clamp_word (by omega), (tile_words i).1, (tile_words i).2, show 2 * p.val + 1 + 2 = 2 * (p.val + 1) + 1 by ring]; rfl

include h1 in
theorem off137_eq (i : grid0.Coords) : k0_off137 i v = ![v.toNat - 1, (i 1).val, 256 * (i 0).val] := by
  have e : (Scalar.subi v 1#32).toNat = v.toNat - 1 := by
    show (v - 1#32).toNat = _
    rw [BitVec.toNat_sub_of_le (by rw [BitVec.le_def]; simpa using h1)]; rfl
  show ![(Scalar.subi v 1#32).toNat, _, _] = _
  rw [e, (tile_words i).1, (tile_words i).2]

theorem chunk_inb (i : grid0.Coords) {off : Fin 3 → ℕ} {k : ℕ} (hk : k < 32) (h : off = chunkOff i k) :
    ∀ a, off a + S128x1x256.size a ≤ S4096x16x512.size a := by
  have h0 : (i 0).val < 2 := (i 0).isLt
  have h1 : (i 1).val < 16 := (i 1).isLt
  rw [h]; unfold chunkOff
  intro a; fin_cases a <;> simp [S128x1x256, S4096x16x512] <;> omega

end Len

end Cert.Proof.Pool

end
-- ==== Proof.Check.lean ====
/-
  The bounds the kernel assumes of a tile's sequence length hold of every length between 1 and 4096.
-/
module

public import proofs.«01_k».proof.Proof.Words

@[expose] public section

noncomputable section

namespace Cert.Proof.Pool

open Cert.KernelIdeal Cert.KernelIdeal.Gen
open Idealize.ShloMosaic

variable {v : BitVec 32}

/-! ## The loops that never run -/

theorem t6_none (k : Fin (k0_t6_loop v).trips) : False := Scf.rem_no_trip _ _ k
theorem t3_none {p : Fin (k0_t1_loop v).trips} (k : Fin (k0_t3_loop v p).trips) : False := Scf.rem_no_trip _ _ k
theorem t5_none {p : Fin (k0_t1_loop v).trips} (k : Fin (k0_t5_loop v p).trips) : False := Scf.rem_no_trip _ _ k
theorem t6_ok : (k0_t6_loop v).OK := Scf.rem_ok _ _
theorem t3_ok (p : Fin (k0_t1_loop v).trips) : (k0_t3_loop v p).OK := Scf.rem_ok _ _
theorem t5_ok (p : Fin (k0_t1_loop v).trips) : (k0_t5_loop v p).OK := Scf.rem_ok _ _

theorem t3_all {Q : ∀ p : Fin (k0_t1_loop v).trips, Fin (k0_t3_loop v p).trips → Prop} : ∀ p r, Q p r := fun _ r => (t3_none r).elim
theorem t5_all {Q : ∀ p : Fin (k0_t1_loop v).trips, Fin (k0_t5_loop v p).trips → Prop} : ∀ p r, Q p r := fun _ r => (t5_none r).elim
theorem t6_all {Q : Fin (k0_t6_loop v).trips → Prop} : ∀ p, Q p := fun p => (t6_none p).elim

/-! ## The loops that run -/

section
variable (h2 : v.toNat ≤ 4096)
include h2

theorem t1_ok : (k0_t1_loop v).OK := by
  have := pairs_le h2
  show Scf.OK 0#32 (k0_t1_loop v).ub 1#32
  rw [t1_ub h2]; exact ok_ofNat (by omega)

theorem t2_ok (p : Fin (k0_t1_loop v).trips) : (k0_t2_loop v p).OK := by
  have := rowsIn_le v.toNat (2 * p.val)
  show Scf.OK 0#32 (k0_t2_loop v p).ub 1#32
  rw [t2_ub h2]; exact ok_ofNat (by omega)

theorem t4_ok (p : Fin (k0_t1_loop v).trips) : (k0_t4_loop v p).OK := by
  have := rowsIn_le v.toNat (2 * p.val + 1)
  show Scf.OK 0#32 (k0_t4_loop v p).ub 1#32
  rw [t4_ub h2]; exact ok_ofNat (by omega)

theorem off36_inb (i : grid0.Coords) (p : Fin (k0_t1_loop v).trips) (h : k0_cond1 v p = 1#1) :
    ∀ a, k0_off36 i v p a + S128x1x256.size a ≤ S4096x16x512.size a := by
  have hp := (cond1_iff h2 p).1 h
  have := pairs_le h2
  exact chunk_inb i (by omega) (off36_eq h2 i p hp)

theorem off69_inb (i : grid0.Coords) (p : Fin (k0_t1_loop v).trips) (h : k0_cond2 v p = 1#1) :
    ∀ a, k0_off69 i v p a + S128x1x256.size a ≤ S4096x16x512.size a := by
  have hp := (cond2_iff h2 p).1 h
  have := pairs_le h2
  exact chunk_inb i (by omega) (off69_eq h2 i p hp)

theorem off137_inb (h1 : 1 ≤ v.toNat) (i : grid0.Coords) :
    ∀ a, k0_off137 i v a + S1x1x256.size a ≤ S4096x16x512.size a := by
  have hi0 : (i 0).val < 2 := (i 0).isLt
  have hi1 : (i 1).val < 16 := (i 1).isLt
  rw [off137_eq h1]
  intro a; fin_cases a <;> simp [S1x1x256, S4096x16x512] <;> omega

theorem t2_row {off : ∀ p : Fin (k0_t1_loop v).trips, Fin (k0_t2_loop v p).trips → Fin 3 → ℕ}
    (h : ∃ c, c + 16 ≤ 256 ∧ ∀ p r, off p r = rowOff r.val c) : ∀ p r a, off p r a + S1x1x16.size a ≤ S128x1x256.size a := by
  obtain ⟨c, hc, h⟩ := h
  exact fun p r => row_inb (h p r) (t2_lt h2 p r) hc

theorem t4_row {off : ∀ p : Fin (k0_t1_loop v).trips, Fin (k0_t4_loop v p).trips → Fin 3 → ℕ}
    (h : ∃ c, c + 16 ≤ 256 ∧ ∀ p r, off p r = rowOff r.val c) : ∀ p r a, off p r a + S1x1x16.size a ≤ S128x1x256.size a := by
  obtain ⟨c, hc, h⟩ := h
  exact fun p r => row_inb (h p r) (t4_lt h2 p r) hc

theorem chk1_0_of (i : grid0.Coords) : k0_chk1_0 i v := by
  unfold k0_chk1_0
  repeat' with_reducible apply And.intro
  all_goals first
    | with_reducible exact t1_ok h2
    | with_reducible exact t2_ok h2
    | with_reducible exact t3_ok
    | (with_reducible refine t2_row h2 ?_; refine ⟨_, ?_, fun _ _ => rfl⟩; decide)
    | with_reducible exact t3_all

theorem chk1_1_of (i : grid0.Coords) : k0_chk1_1 i v := by
  unfold k0_chk1_1
  repeat' with_reducible apply And.intro
  all_goals first
    | with_reducible exact t4_ok h2
    | with_reducible exact t5_ok
    | with_reducible exact t6_ok
    | with_reducible exact off36_inb h2 i
    | with_reducible exact off69_inb h2 i
    | with_reducible exact t3_all
    | with_reducible exact t5_all
    | with_reducible exact t6_all
    | (with_reducible refine t4_row h2 ?_; refine ⟨_, ?_, fun _ _ => rfl⟩; decide)

theorem chk1_2_of (i : grid0.Coords) : k0_chk1_2 i v := by
  unfold k0_chk1_2
  repeat' with_reducible apply And.intro
  all_goals first
    | with_reducible exact t4_ok h2
    | with_reducible exact t5_ok
    | with_reducible exact t6_ok
    | with_reducible exact off36_inb h2 i
    | with_reducible exact off69_inb h2 i
    | with_reducible exact t3_all
    | with_reducible exact t5_all
    | with_reducible exact t6_all
    | (with_reducible refine t4_row h2 ?_; refine ⟨_, ?_, fun _ _ => rfl⟩; decide)

theorem chk1_3_of (i : grid0.Coords) : k0_chk1_3 i v := by
  unfold k0_chk1_3
  repeat' with_reducible apply And.intro
  all_goals with_reducible exact t6_all

theorem chk1_4_of (h1 : 1 ≤ v.toNat) (i : grid0.Coords) : k0_chk1_4 i v := by
  unfold k0_chk1_4
  repeat' with_reducible apply And.intro
  all_goals first
    | with_reducible exact t6_all
    | with_reducible exact off137_inb h2 h1 i

/-- What the kernel assumes of a sequence's length holds where the length is between 1 and 4096. -/
theorem chk1_of (h1 : 1 ≤ v.toNat) (i : grid0.Coords) : k0_chk1 i v :=
  ⟨chk1_0_of h2 i, chk1_1_of h2 i, chk1_2_of h2 i, chk1_3_of h2 i, chk1_4_of h2 h1 i⟩

end

end Cert.Proof.Pool

end
-- ==== Proof.Setup.lean ====
/-
  The kernel as the launch theorem sees it, the algebra its run is stated over, the buffers a tile addresses, and the
  values a tile computes: running sums and running maxima, column by column, over the rows of a sequence.
-/
module

public import proofs.«01_k».proof.Proof.Check
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal.Skeleton

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its algebra -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## What a tile addresses -/

abbrev xLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0

abbrev cV (L : grid0.Coords) : Fin τ.nSC := (L 0).castLE hcore0
abbrev jV (L : grid0.Coords) : Fin τ.nSub := (L 1).castLE hsub0
/-- The tile's thread. -/
abbrev tV (d : Dev nD) (L : grid0.Coords) : Thread nD τ := V d (cV L) (jV L)

/-! ## What a tile computes -/

variable [FloatOps F]

/-- The sum's and the maximum's starting values. -/
def zero : F .f32 := Scalar.ofBits .f32 0x00000000#32
def ninf : F .f32 := Scalar.ofBits .f32 0xFF800000#32

/-- The running sum of `x` over the rows below `n`. -/
def sumTo (x : ℕ → F .f32) : ℕ → F .f32
  | 0 => zero
  | n + 1 => FloatOps.addf (sumTo x n) (x n)

/-- The running maximum of `x` over the rows below `n`. -/
def maxTo (x : ℕ → F .f32) : ℕ → F .f32
  | 0 => ninf
  | n + 1 => FloatOps.maximumf (maxTo x n) (x n)

/-- The sixteen sums and sixteen maxima the loops carry. -/
abbrev Acc (F : FTy → Type) : Type :=
  FVec F S16 .f32 × FVec F S16 .f32 × FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 × FVec F S16 .f32 × FVec F S16 .f32 ×
  FVec F S16 .f32 × FVec F S16 .f32 × FVec F S16 .f32 × FVec F S16 .f32 × FVec F S16 .f32 × FVec F S16 .f32 × FVec F S16 .f32 × FVec F S16 .f32

/-- The carried vectors, from the sums and the maxima by group of sixteen columns. -/
abbrev pack (s t : ℕ → FVec F S16 .f32) : Acc F :=
  (s 0, s 1, s 2, s 3, s 4, s 5, s 6, s 7, s 8, s 9, s 10, s 11, s 12, s 13, s 14, s 15,
    t 0, t 1, t 2, t 3, t 4, t 5, t 6, t 7, t 8, t 9, t 10, t 11, t 12, t 13, t 14, t 15)

/-- The sums over rows below `n` of the tile's column `16 g + j`, `X t c` the value at row `t`, column `c`. -/
def sums (X : ℕ → ℕ → F .f32) (n g : ℕ) : FVec F S16 .f32 := fun j => sumTo (fun t => X t (16 * g + (j 0).val)) n
def maxs (X : ℕ → ℕ → F .f32) (n g : ℕ) : FVec F S16 .f32 := fun j => maxTo (fun t => X t (16 * g + (j 0).val)) n

/-- What the loops carry once the rows below `n` have been read. -/
abbrev accAt (X : ℕ → ℕ → F .f32) (n : ℕ) : Acc F := pack (sums X n) (maxs X n)

/-- The buffer holds the rows from `base` on. -/
def Holds (X : ℕ → ℕ → F .f32) (base : ℕ) (f : Vec F S128x1x256 .f32) : Prop :=
  ∀ j : S128x1x256.Idx, f j = X (base + (j 0).val) (j 2).val

/-- Sixteen columns of a row, as a load of a chunk's buffer reads them. -/
def lanes {sp : Space} (w : View sig .scVector sp S128x1x256 .f32) (f : w.ty.Contents (Elt F)) (off : Fin 3 → ℕ)
    (inb : ∀ a, off a + S1x1x16.size a ≤ S128x1x256.size a) : FVec F S16 .f32 :=
  shapeCast S16 (w.readAt (Elt F) (Rect.unit (s := S128x1x256) off S1x1x16.size inb).toLoadRect f) shapeCasts_S1x1x16_S16

/-- Lane `j` of a row's sixteen. -/
def lane (j : Fin 16) : S1x1x16.Idx := fun | 0 => ⟨0, by decide⟩ | 1 => ⟨0, by decide⟩ | 2 => j

theorem lanes_apply {off : Fin 3 → ℕ} {k c : ℕ} (h : off = rowOff k c) (hk : k < 128) (inb) {X : ℕ → ℕ → F .f32} {base : ℕ}
    {w : View sig .scVector .vmem S128x1x256 .f32} {f : w.ty.Contents (Elt F)} (hf : Holds X base (w.read (Elt F) f)) (j : S16.Idx) : lanes w f off inb j = X (base + k) (c + (j 0).val) := by
  rw [rowOff_eq hk] at h
  subst h
  unfold lanes
  have hj : (j 0).val < 16 := (j 0).isLt
  rw [shapeCast_apply _ _ j (lane ⟨(j 0).val, hj⟩)
    (by rw [Shape.rowMajor_val_three, Shape.rowMajor_val_one]; simp [S1x1x16, lane])]
  rw [View.readAt_apply, hf]
  congr 1 <;> simp [Rect.unit, Rect.toLoadRect, LoadRect.idx, lane]

theorem add_step {X : ℕ → ℕ → F .f32} {base k g : ℕ} {w : View sig .scVector .vmem S128x1x256 .f32} {f : w.ty.Contents (Elt F)} (hf : Holds X base (w.read (Elt F) f)) {off : Fin 3 → ℕ} {inb}
    (h : off = rowOff k (16 * g)) (hk : k < 128) :
    addf (sums X (base + k) g) (lanes w f off inb) = sums X (base + k + 1) g := by
  funext j
  show FloatOps.addf (sums X (base + k) g j) (lanes w f off inb j) = _
  rw [lanes_apply h hk inb hf]; rfl

theorem max_step {X : ℕ → ℕ → F .f32} {base k g : ℕ} {w : View sig .scVector .vmem S128x1x256 .f32} {f : w.ty.Contents (Elt F)} (hf : Holds X base (w.read (Elt F) f)) {off : Fin 3 → ℕ} {inb}
    (h : off = rowOff k (16 * g)) (hk : k < 128) :
    maximumf (maxs X (base + k) g) (lanes w f off inb) = maxs X (base + k + 1) g := by
  funext j
  show FloatOps.maximumf (maxs X (base + k) g j) (lanes w f off inb j) = _
  rw [lanes_apply h hk inb hf]; rfl

end Cert.Proof.Pool

end
-- ==== Proof.Fold.lean ====
/-
  The running sum and the running maximum over the extended reals, as one sum and one maximum over all the rows in which
  the rows past the end read zero, or minus infinity.
-/
module

public import proofs.«01_k».proof.Proof.Setup
public import Idealize.ShloMosaic.PureOps.Ideal

@[expose] public section

noncomputable section

namespace Cert.Proof.Pool

open Idealize.ShloMosaic
open scoped BigOperators

theorem zero_ideal : (zero : Ideal .f32) = (0 : EReal) := by
  show Ideal.ofBits .f32 0x00000000#32 = 0
  simp [Ideal.ofBits, Ideal.ieee]

theorem ninf_ideal : (ninf : Ideal .f32) = (⊥ : EReal) := by
  show Ideal.ofBits .f32 0xFF800000#32 = ⊥
  simp [Ideal.ofBits, Ideal.ieee]

theorem sumTo_ideal (x : ℕ → EReal) (n : ℕ) : sumTo (F := Ideal) x n = ∑ t ∈ Finset.range n, x t := by
  induction n with
  | zero => exact zero_ideal
  | succ n ih =>
    rw [Finset.sum_range_succ, ← ih]; rfl

theorem maxTo_ideal (x : ℕ → EReal) (n : ℕ) : maxTo (F := Ideal) x n = (Finset.range n).sup x := by
  induction n with
  | zero => exact ninf_ideal
  | succ n ih =>
    rw [Finset.range_add_one, Finset.sup_insert, ← ih, sup_comm]; rfl

/-- The sum over all `N` rows, those from `n` on read as zero, is the running sum at `n`. -/
theorem masked_sum (x : ℕ → EReal) {N n : ℕ} (h : n ≤ N) (f : Fin N → EReal) (hf : ∀ t, f t = if t.val < n then x t.val else 0) :
    ∑ t, f t = sumTo (F := Ideal) x n := by
  rw [sumTo_ideal, Finset.sum_congr rfl fun t _ => hf t, Fin.sum_univ_eq_sum_range (fun t => if t < n then x t else 0) N,
    ← Finset.sum_filter]
  refine Finset.sum_congr (Finset.ext fun t => ?_) fun _ _ => rfl
  simp only [Finset.mem_filter, Finset.mem_range]
  omega

/-- The maximum over all `N` rows, those from `n` on read as minus infinity, is the running maximum at `n`. -/
theorem masked_max (x : ℕ → EReal) {N n : ℕ} (h : n ≤ N) (f : Fin N → EReal) (hf : ∀ t, f t = if t.val < n then x t.val else ⊥) :
    Finset.univ.sup f = maxTo (F := Ideal) x n := by
  rw [maxTo_ideal]
  refine le_antisymm (Finset.sup_le fun t _ => ?_) (Finset.sup_le fun t ht => ?_)
  · rw [hf t]
    split
    · exact Finset.le_sup (f := x) (Finset.mem_range.2 ‹_›)
    · exact bot_le
  · have ht := Finset.mem_range.1 ht
    have e := hf ⟨t, by omega⟩
    rw [if_pos ht] at e
    exact e ▸ Finset.le_sup (f := f) (Finset.mem_univ _)

end Cert.Proof.Pool

end
-- ==== Proof.Reference.lean ====
/-
  What the reference computes, at an index: the masked row, the sum and the maximum over the rows, the row that is gathered.
-/
module

public import proofs.«01_k».proof.Proof.Gen.ReferenceIdeal
public import proofs.«01_k».proof.Proof.Gen.ReferenceIdeal.Run
public import Idealize.ShloMosaic.Lib.Pipeline.Value
public import Idealize.ShloMosaic.Lib.IdealHost
public import Idealize.ShloMosaic.PureOps.Ideal.Laws

@[expose] public section

noncomputable section

namespace Cert.Proof.Pool.Ref

open Cert.ReferenceIdeal Cert.ReferenceIdeal.Gen
open Idealize.ShloMosaic
open scoped BigOperators

variable (x : FVec Ideal S4096x16x512 .f32) (l : IVec S16 32)

def step (t : Fin 4096) (b : Fin 16) (q : Fin 512) : S4096x16x512.Idx := fun | 0 => t | 1 => b | 2 => q
def cell (b : Fin 16) (q : Fin 512) : S16x512.Idx := fun | 0 => b | 1 => q
def one (b : Fin 16) : S16.Idx := fun | 0 => b
def word (b : Fin 16) (k : Fin 2) : S16x2.Idx := fun | 0 => b | 1 => k

/-- The steps below each sequence's length. -/
def mask : IVec S4096x16x512 1 :=
  broadcastInDim S4096x16x512 ![0, 1, 2] bcast_S4096x16x1_S4096x16x512_0_1_2 (broadcastInDim S4096x16x1 ![0, 1] bcast_S4096x16_S4096x16x1_0_1
    (cmpi .slt (broadcastInDim S4096x16 ![0, 1] bcast_S4096x1_S4096x16_0_1 (broadcastInDim S4096x1 ![0] bcast_S4096_S4096x1_0 (iotaInDim S4096 32 0)))
      (broadcastInDim S4096x16 ![0, 1] bcast_S1x16_S4096x16_0_1 (broadcastInDim S1x16 ![1] bcast_S16_S1x16_1 l))))

/-- The array with the steps outside the mask read as one value. -/
def masked (w : BitVec 32) : FVec Ideal S4096x16x512 .f32 :=
  select (mask l) x (broadcastInDim S4096x16x512 ![] bcast_S_S4096x16x512 (id (constant S_ .f32 w)))

def sums : FVec Ideal S16x512 .f32 :=
  Host.reduceAdd (masked x l 0x00000000#32) (constant S_ .f32 0x00000000#32) reducesTo_S4096x16x512_S16x512_d0 h_S_

def maxima : FVec Ideal S16x512 .f32 :=
  Host.reduce FloatOps.maximumf (masked x l 0xFF800000#32) (constant S_ .f32 0xFF800000#32) reducesTo_S4096x16x512_S16x512_d0 h_S_

def means : FVec Ideal S16x512 .f32 :=
  Host.divf (sums x l) (broadcastInDim S16x512 ![0, 1] bcast_S16x1_S16x512_0_1 (sitofp .f32 (broadcastInDim S16x1 ![0] bcast_S16_S16x1_0 l)))

/-- An index of `n` steps, counted from the end where it is negative. -/
def wrap (v : IVec S16 32) (n : BitVec 32) : IVec S16 32 :=
  select (cmpi .slt v (broadcastInDim S16 ![] bcast_S_S16 (constantI S_ 32 0#32))) (addi v (broadcastInDim S16 ![] bcast_S_S16 (constantI S_ 32 n))) v

/-- Where each sequence's last step is read: its number less one, and the sequence. -/
def places : IVec S16x2 32 :=
  concatenate S16x2 1 [⟨S16x1, broadcastInDim S16x1 ![0] bcast_S16_S16x1_0
      (wrap (subi l (broadcastInDim S16 ![] bcast_S_S16 (constantI S_ 32 1#32))) 4096#32)⟩,
    ⟨S16x1, broadcastInDim S16x1 ![0] bcast_S16_S16x1_0 (wrap (iotaInDim S16 32 0) 16#32)⟩] concatenates_S16x1_S16x1_S16x2_d1

def lasts : FVec Ideal S16x512 .f32 := Host.gather gather_S4096x16x512_S16x2_S16x512_1_01_n_n_01_1_11512 x (places l)

def whole : FVec Ideal S16x1536 .f32 :=
  concatenate S16x1536 1 [⟨S16x512, lasts x l⟩, ⟨S16x512, means x l⟩, ⟨S16x512, maxima x l⟩] concatenates_S16x512_S16x512_S16x512_S16x1536_d1

/-! ## The mask -/

theorem mask_apply (t : Fin 4096) (b : Fin 16) (q : Fin 512) :
    mask l (step t b q) = IntOp.cmpi .slt (BitVec.ofNat 32 t.val) (l (one b)) := by
  unfold mask
  rw [broadcastInDim_apply _ _ _ (step t b q) (fun | 0 => t | 1 => b | 2 => (0 : Fin 1) : S4096x16x1.Idx) (by intro a; match a with | 0 => rfl | 1 => rfl | 2 => rfl),
    broadcastInDim_apply _ _ _ _ (fun | 0 => t | 1 => b : S4096x16.Idx) (by intro a; match a with | 0 => rfl | 1 => rfl)]
  show IntOp.cmpi .slt (broadcastInDim S4096x16 _ _ _ _) (broadcastInDim S4096x16 _ _ _ _) = _
  rw [broadcastInDim_apply _ _ _ _ (fun | 0 => t | 1 => (0 : Fin 1) : S4096x1.Idx) (by intro a; match a with | 0 => rfl | 1 => rfl),
    broadcastInDim_apply _ _ _ _ (fun | 0 => t : S4096.Idx) (by intro a; match a with | 0 => rfl),
    broadcastInDim_apply _ _ _ _ (fun | 0 => (0 : Fin 1) | 1 => b : S1x16.Idx) (by intro a; match a with | 0 => rfl | 1 => rfl),
    broadcastInDim_apply _ _ _ _ (one b) (by intro a; match a with | 0 => rfl)]
  rfl

theorem below {t : ℕ} {v : BitVec 32} (ht : t < 4096) (hv : v.toNat ≤ 4096) :
    IntOp.cmpi .slt (BitVec.ofNat 32 t) v = 1#1 ↔ t < v.toNat := by
  rw [IntOp.cmpi_slt]
  simp only [BitVec.toInt_eq_toNat_cond, BitVec.toNat_ofNat, Nat.reducePow]
  rw [Nat.mod_eq_of_lt (by omega), if_pos (by omega), if_pos (by omega)]
  omega

theorem masked_apply (w : BitVec 32) (t : Fin 4096) (b : Fin 16) (q : Fin 512) (hv : (l (one b)).toNat ≤ 4096) :
    masked x l w (step t b q) = if t.val < (l (one b)).toNat then x (step t b q) else Ideal.ofBits .f32 w := by
  show (if mask l (step t b q) = 1#1 then x (step t b q) else _) = _
  rw [mask_apply]
  simp only [below t.isLt hv]
  rfl

/-! ## The sum, the mean and the maximum -/

theorem reduces : S4096x16x512.Reduces [0] S16x512 := by decide

theorem lift_cell (b : Fin 16) (q : Fin 512) (t : Fin 4096) : reduces.lift (cell b q) t = step t b q := by
  funext a
  match a with
  | 0 => rfl
  | 1 => rfl
  | 2 => rfl

theorem sums_apply (b : Fin 16) (q : Fin 512) : sums x l (cell b q) = ∑ t : Fin 4096, masked x l 0x00000000#32 (step t b q) := by
  unfold sums
  rw [ValueIdx.hostReduceAdd_apply, Ideal.hostReduceAdd_single _ reduces]
  have e : (constant (F := Ideal) S_ .f32 0x00000000#32 (Shape.Idx.first h_S_) : EReal) = 0 := by
    show Ideal.ofBits .f32 0x00000000#32 = 0
    simp [Ideal.ofBits, Ideal.ieee]
  rw [e, zero_add]
  exact Finset.sum_congr rfl fun t _ => congrArg (masked x l _) (lift_cell b q t)

theorem fold_max {n : ℕ} (v : EReal) (f : Fin n → EReal) :
    (Finset.univ : Finset (Fin n)).fold (FloatOps.maximumf (F := Ideal) (φ := .f32)) v f = v ⊔ Finset.univ.sup f := by
  refine Finset.induction_on (motive := fun s => s.fold (FloatOps.maximumf (F := Ideal) (φ := .f32)) v f = v ⊔ s.sup f) _ ?_ ?_
  · simp
  · intro a s ha ih
    rw [Finset.fold_insert ha, ih, Finset.sup_insert]
    exact sup_left_comm (f a) v (s.sup f)

theorem maxima_apply (b : Fin 16) (q : Fin 512) :
    maxima x l (cell b q) = Finset.univ.sup fun t : Fin 4096 => (masked x l 0xFF800000#32 (step t b q) : EReal) := by
  refine (Host.reduce_eq_fold_single _ _ _ _ reduces _ _).trans ?_
  have e : (constant (F := Ideal) S_ .f32 0xFF800000#32 (Shape.Idx.first h_S_) : EReal) = ⊥ := by
    show Ideal.ofBits .f32 0xFF800000#32 = ⊥
    simp [Ideal.ofBits, Ideal.ieee]
  have e' : (masked x l 0xFF800000#32 ∘ reduces.lift (cell b q)) = fun t : Fin 4096 => masked x l 0xFF800000#32 (step t b q) :=
    funext fun t => congrArg (masked x l _) (lift_cell b q t)
  rw [e']
  exact (fold_max _ _).trans ((congrArg (· ⊔ _) e).trans (bot_sup_eq _))

theorem means_apply (b : Fin 16) (q : Fin 512) :
    means x l (cell b q) = Ideal.div (sums x l (cell b q)) (FloatOps.sitofp (F := Ideal) .f32 (l (one b))) := by
  unfold means
  rw [ValueIdx.hostDivf_apply, broadcastInDim_apply _ _ _ _ (fun | 0 => b | 1 => (0 : Fin 1) : S16x1.Idx) (by intro a; match a with | 0 => rfl | 1 => rfl)]
  show Ideal.div _ (FloatOps.sitofp (F := Ideal) .f32 (broadcastInDim S16x1 _ _ l _)) = _
  rw [broadcastInDim_apply _ _ _ _ (one b) (by intro a; match a with | 0 => rfl)]

/-! ## The last step -/

theorem wrap_apply (v : IVec S16 32) (n : BitVec 32) (b : Fin 16) (h : (v (one b)).toNat < 2 ^ 31) : wrap v n (one b) = v (one b) := by
  show (if IntOp.cmpi .slt (v (one b)) 0#32 = 1#1 then _ else v (one b)) = _
  refine if_neg fun e => ?_
  have e := IntOp.cmpi_slt.1 e
  rw [BitVec.toInt_eq_toNat_cond, if_pos (by omega)] at e
  have e0 : (0#32 : BitVec 32).toInt = 0 := rfl
  omega

theorem places_step (b : Fin 16) (h1 : 1 ≤ (l (one b)).toNat) (h2 : (l (one b)).toNat ≤ 4096) :
    places l (word b 0) = l (one b) - 1#32 := by
  unfold places
  refine (concatenate_apply_piece (t := S16x2) 1 _ _ (word b 0) 0 (by simp) S16x1 _ rfl rfl 0 rfl (fun | 0 => b | 1 => (0 : Fin 1) : S16x1.Idx)
    (by intro a ha; match a with | 0 => rfl | 1 => exact absurd rfl ha) rfl).trans ?_
  rw [broadcastInDim_apply _ _ _ _ (one b) (by intro a; match a with | 0 => rfl)]
  refine wrap_apply _ _ b ?_
  show (l (one b) - 1#32).toNat < _
  rw [BitVec.toNat_sub_of_le (by simpa [BitVec.le_def] using h1)]
  simp
  omega

theorem places_seq (b : Fin 16) : places l (word b 1) = BitVec.ofNat 32 b.val := by
  unfold places
  refine (concatenate_apply_piece (t := S16x2) 1 _ _ (word b 1) 1 (by simp) S16x1 _ rfl rfl 1 rfl (fun | 0 => b | 1 => (0 : Fin 1) : S16x1.Idx)
    (by intro a ha; match a with | 0 => rfl | 1 => exact absurd rfl ha) rfl).trans ?_
  rw [broadcastInDim_apply _ _ _ _ (one b) (by intro a; match a with | 0 => rfl)]
  refine wrap_apply _ _ b ?_
  show (BitVec.ofNat 32 b.val).toNat < _
  simp
  omega

theorem start_word (j : S16x512.Idx) (k : Fin 2) :
    gather_S4096x16x512_S16x2_S16x512_1_01_n_n_01_1_11512.siIdx j k = word (j 0) k := by
  funext a
  refine Fin.ext ?_
  match a with
  | 0 => rfl
  | 1 => rfl

theorem lasts_apply (b : Fin 16) (q : Fin 512) (h1 : 1 ≤ (l (one b)).toNat) (h2 : (l (one b)).toNat ≤ 4096) :
    lasts x l (cell b q) = x (step ⟨(l (one b)).toNat - 1, by omega⟩ b q) := by
  unfold lasts Host.gather
  refine congrArg x (funext fun a => Fin.ext ?_)
  show gather_S4096x16x512_S16x2_S16x512_1_01_n_n_01_1_11512.start (cell b q) (places l) a
    + gather_S4096x16x512_S16x2_S16x512_1_01_n_n_01_1_11512.batchCoord (cell b q) a
    + gather_S4096x16x512_S16x2_S16x512_1_01_n_n_01_1_11512.offCoord (cell b q) a = _
  rw [GatherDims.batchCoord_eq_zero _ _ _ List.not_mem_nil, Nat.add_zero]
  match a with
  | 0 =>
    have e : gather_S4096x16x512_S16x2_S16x512_1_01_n_n_01_1_11512.start (cell b q) (places l) 0 = min (places l (word b 0)).toInt.toNat 4095 := by
      refine (dif_pos (by decide)).trans ?_
      exact congrArg (fun i => min (places l i).toInt.toNat 4095) (start_word (cell b q) 0)
    rw [e, GatherDims.offCoord_eq_zero _ _ _ (by decide), places_step l b h1 h2, BitVec.toInt_eq_toNat_cond,
      BitVec.toNat_sub_of_le (by simpa [BitVec.le_def] using h1)]
    show min (if 2 * ((l (one b)).toNat - 1) < 2 ^ 32 then _ else _ : ℤ).toNat 4095 + 0 = (l (one b)).toNat - 1
    rw [if_pos (by omega)]
    simp
    omega
  | 1 =>
    have e : gather_S4096x16x512_S16x2_S16x512_1_01_n_n_01_1_11512.start (cell b q) (places l) 1 = min (places l (word b 1)).toInt.toNat 15 := by
      refine (dif_pos (by decide)).trans ?_
      exact congrArg (fun i => min (places l i).toInt.toNat 15) (start_word (cell b q) 1)
    rw [e, GatherDims.offCoord_eq_zero _ _ _ (by decide), places_seq l b, BitVec.toInt_eq_toNat_cond, BitVec.toNat_ofNat, Nat.mod_eq_of_lt (by omega),
      if_pos (by omega)]
    show min b.val 15 + 0 = b.val
    omega
  | 2 =>
    have e : gather_S4096x16x512_S16x2_S16x512_1_01_n_n_01_1_11512.start (cell b q) (places l) 2 = 0 := dif_neg (by decide)
    rw [e, Nat.zero_add]
    rfl

/-! ## The three results side by side -/

/-- The three results by number. -/
def part (p : Fin 3) : FVec Ideal S16x512 .f32 :=
  match p with
  | 0 => lasts x l
  | 1 => means x l
  | 2 => maxima x l

theorem whole_apply (j : S16x1536.Idx) (p : Fin 3)
    (q : Fin 512) (hq : (j 1).val = 512 * p.val + q.val) : whole x l j = part x l p (cell (j 0) q) := by
  have off : ∀ a : Fin S16x512.rank, a.cast (rfl : S16x512.rank = S16x1536.rank) ≠ 1 → (cell (j 0) q a).val = (j (a.cast rfl)).val := by
    intro a ha
    match a with
    | 0 => rfl
    | 1 => exact absurd rfl ha
  unfold whole
  match p, hq with
  | 0, hq => exact concatenate_apply_piece (t := S16x1536) 1 _ _ j 0 (by simp) S16x512 _ rfl rfl 0 rfl (cell (j 0) q) off (by
      have e : ((0 : Fin 3)).val = 0 := rfl
      show 0 + q.val = (j 1).val
      omega)
  | 1, hq => exact concatenate_apply_piece (t := S16x1536) 1 _ _ j 1 (by simp) S16x512 _ rfl rfl 512 rfl (cell (j 0) q) off (by
      have e : ((1 : Fin 3)).val = 1 := rfl
      show 512 + q.val = (j 1).val
      omega)
  | 2, hq => exact concatenate_apply_piece (t := S16x1536) 1 _ _ j 2 (by simp) S16x512 _ rfl rfl (512 + (512 + 0)) (by simp [S16x512, S16x1536]) (cell (j 0) q) off (by
      have e : ((2 : Fin 3)).val = 2 := rfl
      show 512 + (512 + 0) + q.val = (j 1).val
      omega)

end Cert.Proof.Pool.Ref

end
-- ==== Proof.Rows.lean ====
/-
  One trip of a row loop: sixteen loads of a chunk's row, added to the sums and taken into the maxima.
-/
module

public import proofs.«01_k».proof.Proof.Setup

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) {v : BitVec 32} (hw : k0_chk1 L v) (h2 : v.toNat ≤ 4096)
variable {xM : Memref sig .scVector .hbm S4096x16x512 .f32} {hx : xM.IsWhole} {lM : Memref sig .scVector .hbm S16 .i32} {hl : lM.IsWhole}
  {oM : Memref sig .scVector .hbm S16x1536 .f32} {ho : oM.IsWhole} {nM : Memref sig .scVector .vmem S32 .i32} {hn : nM.IsWhole}
  {aM : Memref sig .scVector .vmem S128x1x256 .f32} {ha : aM.IsWhole} {bM : Memref sig .scVector .vmem S128x1x256 .f32} {hb : bM.IsWhole}
  {rM : Memref sig .scVector .vmem S3x256 .f32} {hr : rM.IsWhole} {s9 s10 q0 q1 q2 q3 : DmaSems sig S_}
variable (w41 w24 w26 w69 w25 : BitVec 32) (arg0 : BitVec 32)

/-- What a row loop keeps: the chunk's buffer, and the sums and maxima over the `n` rows before the chunk and the first `k` of it. -/
def rowInv (X : ℕ → ℕ → F .f32) (n : ℕ) (f : Buf (Elt F) (aM.view.loc (tV d L))) (k : ℕ) (a : Acc F) : sProp 𝕄 :=
  iprop(⌜a = accAt X (n + k)⌝ ∗ aM.view.loc (tV d L) ↦{fullShare} f)

include h2 in
set_option maxHeartbeats 4000000 in
/-- A trip over a row of an even chunk. -/
theorem row_even (X : ℕ → ℕ → F .f32) (base : ℕ) (f : Buf (Elt F) ((aM).view.loc (tV d L))) (hf : Holds X base (aM.view.read (Elt F) f))
    (p : Fin (k0_t1_loop v).trips) (r : Fin (k0_t2_loop v p).trips)
    (x12 x13 x14 x15 x16 x17 x18 x19 x20 x21 x22 x23 x24 x25 x26 x27 x28 x29 x30 x31 x32 x33 x34 x35 x36 x37 x38 x39 x40 x41 x42 x43 : FVec F S16 .f32) :
    ((aM).view.loc (tV d L) ↦{fullShare} f : sProp 𝕄)
      ⊢ wp frame (wpE (defs₀ (F := F)) 𝒱₀ (tV d L) none) Set.univ
          (k0_t2_body L xM hx lM hl oM ho nM hn aM ha bM hb rM hr s9 s10 q0 q1 q2 q3 arg0 v hw w41 w24 w26 p
            x12 x13 x14 x15 x16 x17 x18 x19 x20 x21 x22 x23 x24 x25 x26 x27 x28 x29 x30 x31 x32 x33 x34 x35 x36 x37 x38 x39 x40 x41 x42 x43
            r (accAt X (base + r.val)))
          fun a => rowInv d L (aM := aM) X base f (r.val + 1) a := by
  unfold rowInv k0_t2_body
  simp only [k0_part1_eq_skeleton, k0_part2_eq_skeleton]
  unfold k0_part1_skel k0_part2_skel
  iintro Ha
  sl_exec
  sl_step
  isplitr
  · ipureintro
    have hk := t2_lt h2 p r
    repeat' with_reducible refine congrArg₂ Prod.mk ?_ ?_
    all_goals first
      | with_reducible exact add_step hf rfl hk
      | exact add_step hf rfl hk
      | exact max_step hf rfl hk
  · iexact Ha

include h2 in
set_option maxHeartbeats 4000000 in
/-- A trip over a row of an odd chunk. -/
theorem row_odd (X : ℕ → ℕ → F .f32) (base : ℕ) (f : Buf (Elt F) ((bM).view.loc (tV d L))) (hf : Holds X base (bM.view.read (Elt F) f))
    (p : Fin (k0_t1_loop v).trips) (r : Fin (k0_t4_loop v p).trips)
    (v50 v51 : FVec F S16 .f32) :
    ((bM).view.loc (tV d L) ↦{fullShare} f : sProp 𝕄)
      ⊢ wp frame (wpE (defs₀ (F := F)) 𝒱₀ (tV d L) none) Set.univ
          (k0_t4_body L xM hx lM hl oM ho nM hn aM ha bM hb rM hr s9 s10 q0 q1 q2 q3 arg0 v hw w41 v50 v51 w24 w69 w25 p
            r (accAt X (base + r.val)))
          fun a => rowInv d L (aM := bM) X base f (r.val + 1) a := by
  unfold rowInv k0_t4_body
  simp only [k0_part5_eq_skeleton, k0_part6_eq_skeleton]
  unfold k0_part5_skel k0_part6_skel
  iintro Ha
  sl_exec
  sl_step
  isplitr
  · ipureintro
    have hk := t4_lt h2 p r
    repeat' with_reducible refine congrArg₂ Prod.mk ?_ ?_
    all_goals first
      | with_reducible exact add_step hf rfl hk
      | exact add_step hf rfl hk
      | exact max_step hf rfl hk
  · iexact Ha

end Cert.Proof.Pool

end
-- ==== Proof.Chunks.lean ====
/-
  The two buffers of chunks: a chunk on its way into a buffer, and a buffer at rest.
-/
module

public import proofs.«01_k».proof.Proof.Rows

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (xM : Memref sig .scVector .hbm S4096x16x512 .f32) (aM : Memref sig .scVector .vmem S128x1x256 .f32) (s : DmaSems sig S_)
variable (q : PosShare TreeShare) (fx : Buf (Elt F) (xM.view.loc (tV d L)))

/-- The array's index at row `t` and column `c` of the tile's block. -/
def tileIx (t : Fin 4096) (c : Fin 256) : S4096x16x512.Idx := fun
  | 0 => t
  | 1 => L 1
  | 2 => ⟨256 * (L 0).val + c.val, by
      have h0 : (L 0).val < 2 := (L 0).isLt
      show 256 * (L 0).val + c.val < 512
      omega⟩

/-- The tile's block of the array, row `t`, column `c` (anything past its end). -/
def tileX (t c : ℕ) : F .f32 :=
  if h : t < 4096 ∧ c < 256 then xM.view.read (Elt F) fx (tileIx L ⟨t, h.1⟩ ⟨c, h.2⟩) else zero

/-- The buffer at rest, its semaphore at zero, the share of the array whole. -/
def Rest : sProp 𝕄 :=
  iprop((∃ f, aM.view.loc (tV d L) ↦{fullShare} f) ∗ semVal (tV d L, .dma s.sem) 0 ∗ xM.view.loc (tV d L) ↦{q} fx)

/-- The buffer landed: at rest, holding chunk `k`. -/
def Landed (k : ℕ) (f : Buf (Elt F) (aM.view.loc (tV d L))) : sProp 𝕄 :=
  iprop(⌜Holds (tileX d L xM fx) (128 * k) (aM.view.read (Elt F) f)⌝ ∗ aM.view.loc (tV d L) ↦{fullShare} f)

/-- Chunk `k` on its way. -/
def Coming (k : ℕ) : sProp 𝕄 :=
  iprop(∃ E : Finset (Idx (xM.view.loc (tV d L))),
    Transfers.Flight countersEmb (tV d L) (.dma s.sem) (default : HIx 1) aM.view.dmaCredit
        iprop((∃ f, Landed d L xM aM fx k f) ∗ xM.view.loc (tV d L) ↦[E]{q} fx)
      ∗ xM.view.loc (tV d L) ↦[Finset.univ \ E]{q} fx)

variable {d L xM aM s q fx}

theorem unit_emb {s : Shape} {off size : Fin s.rank → ℕ} {inb} (j : (Rect.unit (s := s) off size inb).shape.Idx) (a : Fin s.rank) :
    ((Rect.unit (s := s) off size inb).emb j a).val = off a + (j a).val := by
  rw [Rect.emb_apply]; simp [Rect.unit]

/-- What a copy of chunk `k` leaves in the buffer. -/
theorem holds_chunk {k : ℕ} (hk : k < 32) {off : Fin 3 → ℕ} (hoff : off = chunkOff L k) (inb) (hs) (f : Buf (Elt F) (aM.view.loc (tV d L))) :
    Holds (tileX d L xM fx) (128 * k) (aM.view.read (Elt F) (aM.view.write (Elt F) f
      ((xM.slice (Rect.unit (s := S4096x16x512) off S128x1x256.size inb) hs).view.read (Elt F) fx) Finset.univ)) := by
  subst hoff
  intro j
  rw [View.read_write_univ]
  have h0 : (j 0).val < 128 := (j 0).isLt
  have h1 : (j 1).val < 1 := (j 1).isLt
  have h2 : (j 2).val < 256 := (j 2).isLt
  unfold tileX
  rw [dif_pos ⟨by omega, h2⟩]
  show xM.view.read (Elt F) fx ((Rect.unit (s := S4096x16x512) (chunkOff L k) S128x1x256.size inb).emb j) = _
  congr 1
  funext a
  apply Fin.ext
  rw [unit_emb]
  match a with
  | 0 => rfl
  | 1 => simp [tileIx, chunkOff]; omega
  | 2 => rfl

theorem issue {α : Type} {k : ℕ} (hk : k < 32) {off : Fin 3 → ℕ} (hoff : off = chunkOff L k) {inb} {hs} {hsrc} {hdst} {hsem}
    {kk : PUnit → Prog (TpuEff nD τ sig (Elt F) Λ₀ (.scVector ((L 0).castLE hcore0) ((L 1).castLE hsub0))) α} {Q : α → sProp 𝕄} :
    Rest d L xM aM s q fx
      ⊢ iprop((Coming d L xM aM s q fx k -∗ wp frame (wpE (defs₀ (F := F)) 𝒱₀ (tV d L) none) Set.univ (kk ⟨⟩) Q)
          -∗ wp frame (wpE (defs₀ (F := F)) 𝒱₀ (tV d L) none) Set.univ
              (.op (.enqueueDma (xM.slice (Rect.unit (s := S4096x16x512) off S128x1x256.size inb) hs) (.here aM) (.dma s.sem) hsrc hdst hsem) kk) Q) := by
  unfold Rest
  iintro ⟨⟨%f, Ha⟩, Hs, Hx⟩ Hk
  ihave Hxs := (pointsTo_split_subset (q := q) (f := fx) (S := Finset.univ) (Finset.subset_univ
    (xM.slice (Rect.unit (s := S4096x16x512) off S128x1x256.size inb) hs).view.set)).1 $$ Hx
  icases Hxs with ⟨Hx, Hr⟩
  iapply (Transfers.wp_dmaLocal countersEmb 𝒱₀ (tV d L) none (default : HIx 1) aM.view.dmaCredit rfl (View.dmaCredit_pos _ (by decide)) (Finset.subset_univ _)) $$ [Hx Ha Hs]
  · isplitl [Hx]; · iexact Hx
    isplitl [Ha]; · iexact Ha
    iexact Hs
  iintro Hfl
  iapply Hk
  unfold Coming
  iexists _
  isplitl [Hfl]
  swap; · iexact Hr
  iapply (Transfers.Flight_mono countersEmb (tV d L) ?_) $$ Hfl
  iintro ⟨Ha, Hx⟩
  isplitl [Ha]
  · iexists _
    unfold Landed
    isplitr
    swap; · iexact Ha
    ipureintro
    exact holds_chunk hk hoff inb hs f
  iexact Hx

/-- A chunk fetched where a condition says so. -/
theorem issue_if {α β : Type} {k : ℕ} {P : Prop} [Decidable P] {c : BitVec 1} (hc : c = 1#1 ↔ P) (hk : P → k < 32) {off : Fin 3 → ℕ}
    (hoff : P → off = chunkOff L k) {e : c = 1#1 → TpuEff nD τ sig (Elt F) Λ₀ (.scVector ((L 0).castLE hcore0) ((L 1).castLE hsub0)) PUnit}
    (he : ∀ h, ∃ inb hs hsrc hdst hsem,
      e h = .enqueueDma (xM.slice (Rect.unit (s := S4096x16x512) off S128x1x256.size inb) hs) (.here aM) (.dma s.sem) hsrc hdst hsem)
    {J : PUnit → Prog (TpuEff nD τ sig (Elt F) Λ₀ (.scVector ((L 0).castLE hcore0) ((L 1).castLE hsub0))) β}
    {kk : β → Prog (TpuEff nD τ sig (Elt F) Λ₀ (.scVector ((L 0).castLE hcore0) ((L 1).castLE hsub0))) α} {Q : α → sProp 𝕄} :
    Rest d L xM aM s q fx
      ⊢ iprop(((if P then Coming d L xM aM s q fx k else Rest d L xM aM s q fx)
            -∗ wp frame (wpE (defs₀ (F := F)) 𝒱₀ (tV d L) none) Set.univ (J ⟨⟩ >>= kk) Q)
          -∗ wp frame (wpE (defs₀ (F := F)) 𝒱₀ (tV d L) none) Set.univ
              ((if h : c = 1#1 then Prog.lift (e h) >>= J else J ⟨⟩) >>= kk) Q) := by
  by_cases h : c = 1#1
  · have hP := hc.1 h
    obtain ⟨inb, hs, hsrc, hdst, hsem, he⟩ := he h
    rw [dif_pos h, if_pos hP, he]
    exact issue (F := F) (d := d) (hk hP) (hoff hP) (hsrc := hsrc) (hdst := hdst) (hsem := hsem) (kk := fun u => J u >>= kk) (Q := Q)
  · rw [dif_neg h, if_neg (fun hP => h (hc.2 hP))]
    iintro H Hk
    iapply Hk
    iexact H

theorem collect {α : Type} {k : ℕ} {s' : Memref sig .scVector .hbm S128x1x256 .f32} {hsrc} {hdst} {O : CellTallies nD τ sig (HIx 1)} {W : Waits sig (HIx 1)}
    {kk : PUnit → Prog (TpuEff nD τ sig (Elt F) Λ₀ (.scVector ((L 0).castLE hcore0) ((L 1).castLE hsub0))) α} {Q : α → sProp 𝕄} :
    iprop(Coming d L xM aM s q fx k ∗ owes (tV d L) O W ∗ Transfers.MayWaits (tV d L) (default : HIx 1) O)
      ⊢ iprop((iprop((∃ f, Landed d L xM aM fx k f) ∗ semVal (tV d L, .dma s.sem) 0 ∗ (xM.view.loc (tV d L) ↦{q} fx)
              ∗ owes (tV d L) O (insert (SemLoc.dma s.sem, default) W)) -∗ wp frame (wpE (defs₀ (F := F)) 𝒱₀ (tV d L) none) Set.univ (kk ⟨⟩) Q)
          -∗ wp frame (wpE (defs₀ (F := F)) 𝒱₀ (tV d L) none) Set.univ
              (.op (.waitDma2 s.sem s' aM hsrc hdst) kk) Q) := by
  unfold Coming
  iintro ⟨⟨%E, Hfl, Hr⟩, HO, Hmw⟩ Hk
  iapply (Transfers.wp_waitLocalO countersEmb 𝒱₀ (tV d L) none (default : HIx 1) (rfl : aM.view.dmaCredit = _)) $$ [Hfl HO Hmw]
  · isplitl [Hfl]; · iexact Hfl
    isplitl [HO]; · iexact HO
    iapply (Transfers.MayWaits.elim (SemLoc.dma s.sem)) $$ Hmw
  iintro ⟨⟨Ha, Hx⟩, Hs, HO⟩
  iapply Hk
  isplitl [Ha]; · iexact Ha
  isplitl [Hs]; · iexact Hs
  isplitl [Hx Hr]
  · iapply (pointsTo_split_subset (q := q) (f := fx) (S := Finset.univ) (Finset.subset_univ E)).2
    isplitl [Hx] <;> iassumption
  iexact HO

end Cert.Proof.Pool

end
-- ==== Proof.Pair.lean ====
/-
  One trip of the pair loop: a chunk awaited in each buffer in turn, its rows taken in, and the next pair's fetched.
-/
module

public import proofs.«01_k».proof.Proof.Chunks

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) {v : BitVec 32} (hw : k0_chk1 L v) (h2 : v.toNat ≤ 4096)
variable {xM : Memref sig .scVector .hbm S4096x16x512 .f32} {hx : xM.IsWhole} {lM : Memref sig .scVector .hbm S16 .i32} {hl : lM.IsWhole}
  {oM : Memref sig .scVector .hbm S16x1536 .f32} {ho : oM.IsWhole} {nM : Memref sig .scVector .vmem S32 .i32} {hn : nM.IsWhole}
  {aM : Memref sig .scVector .vmem S128x1x256 .f32} {ha : aM.IsWhole} {bM : Memref sig .scVector .vmem S128x1x256 .f32} {hb : bM.IsWhole}
  {rM : Memref sig .scVector .vmem S3x256 .f32} {hr : rM.IsWhole} {s9 s10 q0 q1 q2 q3 : DmaSems sig S_}
variable (w41 w24 w26 w69 w25 : BitVec 32) (arg0 : BitVec 32)
variable (qa qb : PosShare TreeShare) (fx : Buf (Elt F) (xM.view.loc (tV d L)))

/-- The core's record of its waits: what it had and its own transfers'. -/
def Waited (O : CellTallies nD τ sig (HIx 1)) (W : Waits sig (HIx 1)) : sProp 𝕄 :=
  iprop(∃ W', ⌜∀ x ∈ W', x ∈ W ∨ x.2 = none⌝ ∗ owes (tV d L) O W')

variable (aM bM s9 s10) in
/-- Before pair `p`: both its chunks on their way, or, past the last pair, both buffers at rest. -/
def pairInv (n : ℕ) (O : CellTallies nD τ sig (HIx 1)) (W : Waits sig (HIx 1)) (p : ℕ) (a : Acc F) : sProp 𝕄 :=
  iprop(⌜a = accAt (tileX d L xM fx) (min n (256 * p))⌝
    ∗ (if p < pairs n then iprop(Coming d L xM aM s9 qa fx (2 * p) ∗ Coming d L xM bM s10 qb fx (2 * p + 1))
        else iprop(Rest d L xM aM s9 qa fx ∗ Rest d L xM bM s10 qb fx))
    ∗ Waited d L O W ∗ Transfers.MayWaits (tV d L) (default : HIx 1) O)

theorem before_even {n p : ℕ} (hp : p < pairs n) : min n (256 * p) = 128 * (2 * p) := by
  unfold pairs at hp
  omega

theorem after_even {n p : ℕ} (hp : p < pairs n) : 128 * (2 * p) + rowsIn n (2 * p) = min n (128 * (2 * p + 1)) := by
  unfold pairs at hp
  unfold rowsIn
  omega

theorem before_odd {n p r : ℕ} (hr : r < rowsIn n (2 * p + 1)) : min n (128 * (2 * p + 1)) = 128 * (2 * p + 1) := by
  unfold rowsIn at hr
  omega

theorem after_odd {n p : ℕ} : min n (128 * (2 * p + 1)) + rowsIn n (2 * p + 1) = min n (256 * (p + 1)) := by
  unfold rowsIn
  omega

include h2 in
set_option maxHeartbeats 4000000 in
theorem pair_trip (O : CellTallies nD τ sig (HIx 1)) (W : Waits sig (HIx 1)) (v50 v51 : FVec F S16 .f32) (p : Fin (k0_t1_loop v).trips) (a : Acc F) :
    pairInv d L aM bM s9 s10 qa qb fx v.toNat O W p.val a
      ⊢ wp frame (wpE (defs₀ (F := F)) 𝒱₀ (tV d L) none) Set.univ
          (k0_t1_body L xM hx lM hl oM ho nM hn aM ha bM hb rM hr s9 s10 q0 q1 q2 q3 arg0 v hw w41 v50 v51 w24 w69 w25 p a)
          fun a => pairInv d L aM bM s9 s10 qa qb fx v.toNat O W (p.val + 1) a := by
  have hp := t1_lt h2 p
  unfold pairInv Waited k0_t1_body
  simp only [k0_part9_eq_skeleton]
  unfold k0_part9_skel
  iintro ⟨%hacc, HC, ⟨%W', %hW, HO⟩, #Hmw⟩
  ihave HC := (Entails.of_eq (if_pos hp)) $$ HC
  icases HC with ⟨Hca, Hcb⟩
  subst hacc
  sl_exec
  iapply collect $$ [Hca HO]
  · isplitl [Hca]; · iexact Hca
    isplitl [HO]; · iexact HO
    iexact Hmw
  iintro ⟨⟨%f, Hf⟩, Hs9, Hxa, HO⟩
  unfold Landed
  icases Hf with ⟨%hf, Ha⟩
  sl_exec
  sl_rw [Prog.bind_assoc]
  sl_for (rowInv d L (aM := aM) (tileX d L xM fx) (128 * (2 * p.val)) f) $$ [Ha]
  case region =>
    intro r acc
    unfold rowInv
    iintro ⟨%hacc, Ha⟩
    subst hacc
    iapply (row_even d L (v := v) hw h2 w41 w24 1#32 arg0 (tileX d L xM fx) (128 * (2 * p.val)) f hf p r)
    iexact Ha
  · unfold rowInv
    isplitr
    · ipureintro
      exact congrArg (accAt (tileX d L xM fx)) (before_even hp)
    iexact Ha
  iintro %acc HI
  unfold rowInv
  icases HI with ⟨%hacc, Ha⟩
  ihave Hra := (show iprop((aM.view.loc (tV d L) ↦{fullShare} f) ∗ semVal (tV d L, SemLoc.dma s9.sem) 0 ∗ xM.view.loc (tV d L) ↦{qa} fx : sProp 𝕄)
      ⊢ Rest d L xM aM s9 qa fx from by
    unfold Rest
    iintro ⟨Ha, H⟩
    isplitl [Ha]; · iexists f; iexact Ha
    iexact H) $$ [Ha Hs9 Hxa]
  · isplitl [Ha]; · iexact Ha
    isplitl [Hs9] <;> iassumption
  sl_respell []
  sl_rw [Prog.bind_assoc]
  sl_for (fun _ a => iprop(⌜a = acc⌝ : sProp 𝕄)) $$ []
  case region =>
    intro r
    exact (t3_none r).elim
  · ipureintro; rfl
  iintro %acc' %hacc'
  subst hacc'
  sl_exec
  iapply (issue_if (k := 2 * (p.val + 1)) (P := p.val + 1 < pairs v.toNat) (cond1_iff h2 p) (fun h => by have := pairs_le h2; omega) (fun h => off36_eq h2 L p h)
    (fun _ => ⟨_, _, _, _, _, rfl⟩)) $$ Hra
  iintro Hra
  sl_exec
  iapply collect $$ [Hcb HO]
  · isplitl [Hcb]; · iexact Hcb
    isplitl [HO]; · iexact HO
    iexact Hmw
  iintro ⟨⟨%g, Hg⟩, Hs10, Hxb, HO⟩
  unfold Landed
  icases Hg with ⟨%hg, Hb⟩
  have hacc1 : acc' = accAt (tileX d L xM fx) (min v.toNat (128 * (2 * p.val + 1))) :=
    hacc.trans (congrArg (accAt (tileX d L xM fx)) ((congrArg (128 * (2 * p.val) + ·) (t2_trips h2 p)).trans (after_even hp)))
  clear hacc
  subst hacc1
  sl_exec
  sl_for (rowInv d L (aM := bM) (tileX d L xM fx) (min v.toNat (128 * (2 * p.val + 1))) g) $$ [Hb]
  case region =>
    intro r acc
    unfold rowInv
    iintro ⟨%hacc, Hb⟩
    subst hacc
    have hr : r.val < rowsIn v.toNat (2 * p.val + 1) := lt_of_lt_of_eq r.isLt (t4_trips h2 p)
    rw [before_odd hr]
    iapply (row_odd d L (v := v) hw h2 w41 w24 w69 w25 arg0 (tileX d L xM fx) (128 * (2 * p.val + 1)) g hg p r v50 v51)
    iexact Hb
  · unfold rowInv
    isplitr
    · ipureintro
      rfl
    iexact Hb
  iintro %acc2 HI
  unfold rowInv
  icases HI with ⟨%hacc, Hb⟩
  ihave Hrb := (show iprop((bM.view.loc (tV d L) ↦{fullShare} g) ∗ semVal (tV d L, SemLoc.dma s10.sem) 0 ∗ xM.view.loc (tV d L) ↦{qb} fx : sProp 𝕄)
      ⊢ Rest d L xM bM s10 qb fx from by
    unfold Rest
    iintro ⟨Ha, H⟩
    isplitl [Ha]; · iexists g; iexact Ha
    iexact H) $$ [Hb Hs10 Hxb]
  · isplitl [Hb]; · iexact Hb
    isplitl [Hs10] <;> iassumption
  sl_respell []
  sl_for (fun _ a => iprop(⌜a = acc2⌝ : sProp 𝕄)) $$ []
  case region =>
    intro r
    exact (t5_none r).elim
  · ipureintro; rfl
  iintro %acc3 %hacc3
  subst hacc3
  have hacc2 : acc3 = accAt (tileX d L xM fx) (min v.toNat (256 * (p.val + 1))) :=
    hacc.trans (congrArg (accAt (tileX d L xM fx)) ((congrArg (min v.toNat (128 * (2 * p.val + 1)) + ·) (t4_trips h2 p)).trans after_odd))
  clear hacc
  subst hacc2
  have hO : ∀ x ∈ insert (SemLoc.dma s10.sem, (default : HIx 1)) (insert (SemLoc.dma s9.sem, default) W'), x ∈ W ∨ x.2 = none := by
    intro x hx
    rcases Finset.mem_insert.1 hx with rfl | hx
    · exact Or.inr rfl
    rcases Finset.mem_insert.1 hx with rfl | hx
    · exact Or.inr rfl
    exact hW x hx
  by_cases hn : p.val + 1 < pairs v.toNat
  · have hc := (cond2_iff h2 p).2 hn
    ihave Hra := (Entails.of_eq (if_pos hn)) $$ Hra
    sl_exec
    iapply (issue (k := 2 * (p.val + 1) + 1) (by have := pairs_le h2; omega) (off69_eq h2 L p hn)) $$ Hrb
    iintro Hrb
    sl_exec
    sl_step
    isplitr
    · ipureintro; rfl
    isplitl [Hra Hrb]
    · iapply (Entails.of_eq (if_pos hn).symm)
      isplitl [Hra] <;> iassumption
    isplitl [HO]
    · iexists _
      isplitr
      · ipureintro; exact hO
      iexact HO
    iexact Hmw
  · have hc : ¬ k0_cond2 v p = 1#1 := fun h => hn ((cond2_iff h2 p).1 h)
    ihave Hra := (Entails.of_eq (if_neg hn)) $$ Hra
    sl_exec
    sl_step
    isplitr
    · ipureintro; rfl
    isplitl [Hra Hrb]
    · iapply (Entails.of_eq (if_neg hn).symm)
      isplitl [Hra] <;> iassumption
    isplitl [HO]
    · iexists _
      isplitr
      · ipureintro; exact hO
      iexact HO
    iexact Hmw

end Cert.Proof.Pool

end
-- ==== Proof.Fetch.lean ====
/-
  A tile's first step: its sequence's length fetched.
-/
module

public import proofs.«01_k».proof.Proof.Pair

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (xM : Memref sig .scVector .hbm S4096x16x512 .f32) (hx : xM.IsWhole) (lM : Memref sig .scVector .hbm S16 .i32) (hl : lM.IsWhole)
  (oM : Memref sig .scVector .hbm S16x1536 .f32) (ho : oM.IsWhole) (nM : Memref sig .scVector .vmem S32 .i32) (hn : nM.IsWhole)
  (aM : Memref sig .scVector .vmem S128x1x256 .f32) (ha : aM.IsWhole) (bM : Memref sig .scVector .vmem S128x1x256 .f32) (hb : bM.IsWhole)
  (rM : Memref sig .scVector .vmem S3x256 .f32) (hr : rM.IsWhole) (s9 s10 q0 q1 q2 q3 : DmaSems sig S_)
variable (qa qb ql : PosShare TreeShare) (fx : Buf (Elt F) (xM.view.loc (tV d L))) (fl : Buf (Elt F) (lM.view.loc (tV d L)))

/-- The tile's sequence, as an index of the lengths. -/
def lenIx : S16.Idx := fun | 0 => L 1

/-- The length of the tile's sequence. -/
def len : BitVec 32 := lM.view.read (Elt F) fl (lenIx L)

theorem off1_val (L : grid0.Coords) : k0_off1 L 0 + 0 = 0 + 1 * (L 1).val := by
  have h : (L 1).val < 16 := (L 1).isLt
  simp [k0_off1, Scalar.indexCast]
  omega

set_option maxHeartbeats 4000000 in
/-- The tile fetches the lengths and picks its sequence's. -/
theorem fetch (R : sProp 𝕄) (O : CellTallies nD τ sig (HIx 1)) (W : Waits sig (HIx 1)) (h1 : 1 ≤ (len d L lM fl).toNat) (h2 : (len d L lM fl).toNat ≤ 4096) :
    iprop(R ∗ (lM.view.loc (tV d L) ↦{ql} fl) ∗ (∃ f, nM.view.loc (tV d L) ↦{fullShare} f) ∗ semVal (tV d L, .dma q0.sem) 0
        ∗ Waited d L O W ∗ Transfers.MayWaits (tV d L) (default : HIx 1) O)
      ⊢ wp frame (wpE (defs₀ (F := F)) 𝒱₀ (tV d L) none) Set.univ
          (k0_part19 L xM hx lM hl oM ho nM hn aM ha bM hb rM hr s9 s10 q0 q1 q2 q3)
          fun r => iprop(⌜r.2.1 = len d L lM fl⌝ ∗ R ∗ (lM.view.loc (tV d L) ↦{ql} fl) ∗ (∃ f, nM.view.loc (tV d L) ↦{fullShare} f)
            ∗ semVal (tV d L, .dma q0.sem) 0 ∗ Waited d L O W ∗ Transfers.MayWaits (tV d L) (default : HIx 1) O) := by
  rw [k0_part19_eq_skeleton]
  unfold k0_part19_skel
  unfold Waited
  iintro ⟨HR, Hl, ⟨%fn, Hn⟩, Hq0, ⟨%W', %hW, HO⟩, #Hmw⟩
  sl_exec
  have hv : fetch.sl.v4 d L lM nM fl fn = len d L lM fl := by
    unfold fetch.sl.v4
    unfold k0_pay361
    dsimp only [extractAt, extractStridedSlice]
    rw [shapeCast_self]
    show nM.view.read (Elt F) _ _ = _
    refine (View.read_writes_cons_hit_of_coords nM.view fn _ _ [] (lenIx L) _ ?_).trans ?_
    · intro a
      match a with
      | 0 => exact off1_val L
    · unfold fetch.sl.dma0; rfl
  have hchk : k0_chk1 L (fetch.sl.v4 d L lM nM fl fn) := by rw [hv]; exact chk1_of h2 h1 L
  sl_exec
  sl_step
  isplitr
  · ipureintro; exact hv
  isplitl [HR]; · iexact HR
  isplitl [Hl]; · iexact Hl
  isplitl [Hn]; · iexists _; iexact Hn
  isplitl [Hq0]; · iexact Hq0
  isplitl [HO]
  · iexists _
    isplitr
    swap; · iexact HO
    ipureintro
    intro x hx
    rcases Finset.mem_insert.1 hx with rfl | hx
    · exact Or.inr rfl
    exact hW x hx
  iexact Hmw

end Cert.Proof.Pool

end
-- ==== Proof.Store.lean ====
/-
  The three rows of results: the sixteen-column pieces a tile stores, and the last row it fetches.
-/
module

public import proofs.«01_k».proof.Proof.Fetch

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What the tile's three pooled rows hold. -/
def pooled (X : ℕ → ℕ → F .f32) (v : BitVec 32) (r c : ℕ) : F .f32 :=
  match r with
  | 0 => X (v.toNat - 1) c
  | 1 => FloatOps.divf (sumTo (fun t => X t c) v.toNat) (Scalar.sitofp .f32 v)
  | _ => maxTo (fun t => X t c) v.toNat

/-- The buffer's first row is the sequence's last. -/
def HoldsLast (X : ℕ → ℕ → F .f32) (n : ℕ) (f : Vec F S128x1x256 .f32) : Prop :=
  ∀ j : S128x1x256.Idx, (j 0).val = 0 → f j = X (n - 1) (j 2).val

section last

variable (d : Dev nD) (L : grid0.Coords) (xM : Memref sig .scVector .hbm S4096x16x512 .f32) (aM : Memref sig .scVector .vmem S128x1x256 .f32)
variable (fx : Buf (Elt F) (xM.view.loc (tV d L)))

/-- A column of the last row. -/
def lastIx (c : Fin 256) : S1x1x256.Idx := fun | 0 => ⟨0, by decide⟩ | 1 => ⟨0, by decide⟩ | 2 => c

theorem holds_last {v : BitVec 32} (h1 : 1 ≤ v.toNat) (h2 : v.toNat ≤ 4096) (inb inb' hs) (f : Buf (Elt F) (aM.view.loc (tV d L))) :
    HoldsLast (tileX d L xM fx) v.toNat (aM.view.read (Elt F) (aM.view.writes (Elt F) f
      [⟨Rect.unit (s := S128x1x256) ![0, 0, 0] S1x1x256.size inb,
        (xM.slice (Rect.unit (s := S4096x16x512) (k0_off137 L v) S1x1x256.size inb') hs).view.read (Elt F) fx⟩])) := by
  intro j hj
  have h2' : (j 1).val < 1 := (j 1).isLt
  have h3 : (j 2).val < 256 := (j 2).isLt
  rw [View.read_writes_cons_hit_of_coords aM.view f _ _ [] (lastIx ⟨(j 2).val, h3⟩) j]
  · unfold tileX
    rw [dif_pos ⟨by omega, h3⟩]
    have ho := off137_eq h1 L
    revert inb' hs
    rw [ho]
    intro inb' hs
    show xM.view.read (Elt F) fx ((Rect.unit (s := S4096x16x512) ![v.toNat - 1, (L 1).val, 256 * (L 0).val] S1x1x256.size inb').emb _) = _
    congr 1
    funext a
    apply Fin.ext
    rw [unit_emb]
    match a with
    | 0 => simp [tileIx, lastIx]
    | 1 => simp [tileIx, lastIx]
    | 2 => rfl
  · intro a
    match a with
    | 0 => simpa [lastIx] using hj
    | 1 => simp [lastIx]; omega
    | 2 => simp [lastIx]

end last

/-- What an element of the three rows is to be. -/
def goal (X : ℕ → ℕ → F .f32) (v : BitVec 32) (j : S3x256.Idx) : F .f32 := pooled X v (j 0).val (j 1).val

theorem cast_row (w : FVec F S16 .f32) (x : S1x16.Idx) (y : S16.Idx) (hy : (y 0).val = (x 1).val) :
    shapeCast S1x16 w shapeCasts_S16_S1x16 x = w y := by
  refine shapeCast_apply _ _ x y ?_
  have h0 : (x 0).val < 1 := (x 0).isLt
  rw [Shape.rowMajor_val_two, Shape.rowMajor_val_one]
  simp [hy]
  omega

/-- The lane a stored element comes from. -/
def laneOf (x : S1x16.Idx) : S16.Idx := fun | 0 => x 1

theorem piece_inb {r c : ℕ} (hr : r < 3) (hc : c + 16 ≤ 256) : ∀ a, (![r, c] : Fin 2 → ℕ) a + S1x16.size a ≤ S3x256.size a := by
  intro a
  match a with
  | 0 => simpa using hr
  | 1 => simpa using hc

/-- A piece of the first row. -/
theorem piece0 {X : ℕ → ℕ → F .f32} {v : BitVec 32} {c : ℕ} {w : View sig .scVector .vmem S128x1x256 .f32} {f : w.ty.Contents (Elt F)}
    (hf : HoldsLast X v.toNat (w.read (Elt F) f)) {inb inb'} (x : S1x16.Idx) :
    shapeCast S1x16 (shapeCast S16 (w.readAt (Elt F) (Rect.unit (s := S128x1x256) ![0, 0, c] S1x1x16.size inb).toLoadRect f) shapeCasts_S1x1x16_S16)
        shapeCasts_S16_S1x16 x
      = goal X v ((Rect.unit (s := S3x256) ![0, c] S1x16.size inb').emb x) := by
  have h1 : (x 1).val < 16 := (x 1).isLt
  have h0 : (x 0).val < 1 := (x 0).isLt
  rw [cast_row _ x (laneOf x) rfl, shapeCast_apply _ _ (laneOf x) (lane ⟨(x 1).val, h1⟩)
    (by rw [Shape.rowMajor_val_three, Shape.rowMajor_val_one]; simp [S1x1x16, lane, laneOf])]
  rw [View.readAt_apply, hf _ (by simp [Rect.unit, Rect.toLoadRect, LoadRect.idx, lane])]
  unfold goal
  rw [unit_emb, unit_emb]
  have e0 : (![0, c] : Fin 2 → ℕ) 0 + (x 0).val = 0 := by simp; omega
  rw [e0]
  show _ = X (v.toNat - 1) _
  congr 1
  simp [Rect.unit, Rect.toLoadRect, LoadRect.idx, lane]

/-- The same, of a buffer the last copy into covers what is read. -/
theorem piece0_cov {X : ℕ → ℕ → F .f32} {v : BitVec 32} {c : ℕ} {w : View sig .scVector .vmem S128x1x256 .f32} {Ls : List (View.Piece (Elt F) S128x1x256 .f32)}
    (hf : HoldsLast X v.toNat (w.read (Elt F) (w.writes (Elt F) w.junk Ls))) {inb inb'} (x : S1x16.Idx) :
    shapeCast S1x16 (shapeCast S16 (w.readCov Ls (Rect.unit (s := S128x1x256) ![0, 0, c] S1x1x16.size inb).toLoadRect) shapeCasts_S1x1x16_S16)
        shapeCasts_S16_S1x16 x
      = goal X v ((Rect.unit (s := S3x256) ![0, c] S1x16.size inb').emb x) :=
  piece0 hf x

/-- A piece of the second row. -/
theorem piece1 {X : ℕ → ℕ → F .f32} {v : BitVec 32} {g : ℕ} {inb} (x : S1x16.Idx) :
    shapeCast S1x16 (divf (sums X v.toNat g) (k0_pay388 v)) shapeCasts_S16_S1x16 x
      = goal X v ((Rect.unit (s := S3x256) ![1, 16 * g] S1x16.size inb).emb x) := by
  have h0 : (x 0).val < 1 := (x 0).isLt
  rw [cast_row _ x (laneOf x) rfl]
  unfold goal
  rw [unit_emb, unit_emb]
  have e0 : (![1, 16 * g] : Fin 2 → ℕ) 0 + (x 0).val = 1 := by simp; omega
  rw [e0]
  rfl

/-- A piece of the third row. -/
theorem piece2 {X : ℕ → ℕ → F .f32} {v : BitVec 32} {g : ℕ} {inb} (x : S1x16.Idx) :
    shapeCast S1x16 (maxs X v.toNat g) shapeCasts_S16_S1x16 x
      = goal X v ((Rect.unit (s := S3x256) ![2, 16 * g] S1x16.size inb).emb x) := by
  have h0 : (x 0).val < 1 := (x 0).isLt
  rw [cast_row _ x (laneOf x) rfl]
  unfold goal
  rw [unit_emb, unit_emb]
  have e0 : (![2, 16 * g] : Fin 2 → ℕ) 0 + (x 0).val = 2 := by simp; omega
  rw [e0]
  rfl

/-- The three rows are known once every piece is right and the pieces fill them. -/
theorem rows_known {d : Dev nD} {L : grid0.Coords} {rM : Memref sig .scVector .vmem S3x256 .f32} {f : Buf (Elt F) (rM.view.loc (tV d L))}
    (X : ℕ → ℕ → F .f32) (v : BitVec 32) (Ls : List (View.Piece (Elt F) S3x256 .f32))
    (hp : ∀ p ∈ Ls, ∀ x : p.1.shape.Idx, p.2 x = goal X v (p.1.emb x)) (hc : ∀ y : S3x256.Idx, ∃ p ∈ Ls, y ∈ p.1.set) :
    (rM.view.loc (tV d L) ↦{fullShare} rM.view.writes (Elt F) f Ls : sProp 𝕄)
      ⊢ iprop(∃ f, ⌜∀ j, rM.view.read (Elt F) f j = goal X v j⌝ ∗ rM.view.loc (tV d L) ↦{fullShare} f) := by
  iintro H
  iexists _
  isplitr
  · ipureintro
    exact fun y => View.read_writes_apply_of_pieces rM.view f _ Ls hp y (hc y)
  iexact H

end Cert.Proof.Pool

end
-- ==== Proof.Tile.lean ====
/-
  A tile's whole run: its sequence's length fetched, the chunks pooled, the three pooled rows written out.
-/
module

public import proofs.«01_k».proof.Proof.Store

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (xM : Memref sig .scVector .hbm S4096x16x512 .f32) (hx : xM.IsWhole) (lM : Memref sig .scVector .hbm S16 .i32) (hl : lM.IsWhole)
  (oM : Memref sig .scVector .hbm S16x1536 .f32) (ho : oM.IsWhole) (nM : Memref sig .scVector .vmem S32 .i32) (hn : nM.IsWhole)
  (aM : Memref sig .scVector .vmem S128x1x256 .f32) (ha : aM.IsWhole) (bM : Memref sig .scVector .vmem S128x1x256 .f32) (hb : bM.IsWhole)
  (rM : Memref sig .scVector .vmem S3x256 .f32) (hr : rM.IsWhole) (s9 s10 q0 q1 q2 q3 : DmaSems sig S_)
variable (qa qb ql : PosShare TreeShare) (fx : Buf (Elt F) (xM.view.loc (tV d L))) (fl : Buf (Elt F) (lM.view.loc (tV d L)))

/-- The part of the output a tile's row `r` goes to. -/
abbrev outM (r : Fin 3) : Memref sig .scVector .hbm S1x256 .f32 :=
  oM.slice (Rect.unit (s := S16x1536) (k0_off138 L (BitVec.ofNat 32 (512 * r.val))) S1x256.size (k0_off138_inb L r)) (fun _ => rfl)

def OutAny (r : Fin 3) : sProp 𝕄 := iprop(∃ f, (outM L oM r).view.loc (tV d L) ↦[(outM L oM r).view.set]{fullShare} f)

def OutIs (r : Fin 3) : sProp 𝕄 :=
  iprop(∃ f, ⌜∀ j : S1x256.Idx, (outM L oM r).view.read (Elt F) f j = pooled (tileX d L xM fx) (len d L lM fl) r.val (j 1).val⌝
    ∗ (outM L oM r).view.loc (tV d L) ↦[(outM L oM r).view.set]{fullShare} f)

theorem given {φ : Prop} {Q R : sProp 𝕄} (h : φ → Q ⊢ R) : iprop(⌜φ⌝ ∗ Q) ⊢ R := by
  iintro ⟨%hf, H⟩
  iapply (h hf)
  iexact H

theorem acc_start (X : ℕ → ℕ → F .f32) :
    ((k0_pay362, k0_pay362, k0_pay362, k0_pay362, k0_pay362, k0_pay362, k0_pay362, k0_pay362, k0_pay362, k0_pay362,
      k0_pay362, k0_pay362, k0_pay362, k0_pay362, k0_pay362, k0_pay362, k0_pay363, k0_pay363, k0_pay363, k0_pay363,
      k0_pay363, k0_pay363, k0_pay363, k0_pay363, k0_pay363, k0_pay363, k0_pay363, k0_pay363, k0_pay363, k0_pay363,
      k0_pay363, k0_pay363) : Acc F) = accAt X 0 := rfl

set_option maxHeartbeats 4000000 in
/-- The first two chunks are sent for. -/
theorem first_chunks (R : sProp 𝕄) (arg0 v23 w2 v24 v29 v31 : BitVec 32) (v32 : BitVec 1) :
    iprop(R ∗ Rest d L xM aM s9 qa fx ∗ Rest d L xM bM s10 qb fx)
      ⊢ wp frame (wpE (defs₀ (F := F)) 𝒱₀ (tV d L) none) Set.univ
          (k0_part20 L xM hx lM hl oM ho nM hn aM ha bM hb rM hr s9 s10 q0 q1 q2 q3 arg0 v23 w2 v24 v29 v31 v32)
          fun r => iprop(⌜r.2.1 = k0_pay362 ∧ r.2.2.1 = k0_pay363⌝ ∗ R ∗ Coming d L xM aM s9 qa fx 0 ∗ Coming d L xM bM s10 qb fx 1) := by
  rw [k0_part20_eq_skeleton]
  unfold k0_part20_skel
  iintro ⟨HR, Hra, Hrb⟩
  sl_exec
  iapply (issue (k := 0) (by omega) (off2_eq L (k := 0) (by omega))) $$ Hra
  iintro Hca
  sl_exec
  iapply (issue (k := 1) (by omega) (off2_eq L (k := 1) (by omega))) $$ Hrb
  iintro Hcb
  sl_exec
  sl_step
  isplitr
  · ipureintro; exact ⟨rfl, rfl⟩
  iframe

/-- A row of results copied out is what the output is to hold there. -/
theorem out_is {v : BitVec 32} (hv : v = len d L lM fl) {gr : Buf (Elt F) (rM.view.loc (tV d L))}
    (hgr : ∀ j, rM.view.read (Elt F) gr j = goal (tileX d L xM fx) v j) (r : Fin 3) (f : Buf (Elt F) ((outM L oM r).view.loc (tV d L))) (inb) (hs) :
    ((outM L oM r).view.loc (tV d L) ↦[(outM L oM r).view.set]{fullShare}
        (outM L oM r).view.writes (Elt F) f [⟨Rect.whole S1x256, (rM.slice (Rect.unit (s := S3x256) ![r.val, 0] S1x256.size inb) hs).view.read (Elt F) gr⟩] : sProp 𝕄)
      ⊢ OutIs d L xM lM oM fx fl r := by
  unfold OutIs
  iintro H
  iexists _
  isplitr
  swap; · iexact H
  ipureintro
  intro j
  rw [View.read_writes_cons_hit (outM L oM r).view f _ _ [] j j (by funext a; apply Fin.ext; simp [Rect.whole, Rect.emb_apply])]
  show rM.view.read (Elt F) gr ((Rect.unit (s := S3x256) ![r.val, 0] S1x256.size inb).emb j) = _
  have h0 : (j 0).val < 1 := (j 0).isLt
  rw [hgr]
  unfold goal
  rw [unit_emb, unit_emb, hv]
  congr 1
  · simp; omega
  · simp

set_option maxHeartbeats 8000000 in
theorem tile_run (O : CellTallies nD τ sig (HIx 1)) (W : Waits sig (HIx 1)) (h1 : 1 ≤ (len d L lM fl).toNat) (h2 : (len d L lM fl).toNat ≤ 4096) :
    iprop(Rest d L xM aM s9 qa fx ∗ Rest d L xM bM s10 qb fx ∗ (lM.view.loc (tV d L) ↦{ql} fl)
        ∗ (∃ f, nM.view.loc (tV d L) ↦{fullShare} f) ∗ (∃ f, rM.view.loc (tV d L) ↦{fullShare} f)
        ∗ semVal (tV d L, .dma q0.sem) 0 ∗ semVal (tV d L, .dma q1.sem) 0 ∗ semVal (tV d L, .dma q2.sem) 0 ∗ semVal (tV d L, .dma q3.sem) 0
        ∗ OutAny (F := F) d L oM 0 ∗ OutAny (F := F) d L oM 1 ∗ OutAny (F := F) d L oM 2
        ∗ Waited d L O W ∗ Transfers.MayWaits (tV d L) (default : HIx 1) O)
      ⊢ wp frame (wpE (defs₀ (F := F)) 𝒱₀ (tV d L) none) Set.univ
          (cc0__pool_body L xM hx lM hl oM ho nM hn aM ha bM hb rM hr s9 s10 q0 q1 q2 q3)
          fun _ => iprop(Rest d L xM aM s9 qa fx ∗ Rest d L xM bM s10 qb fx ∗ (lM.view.loc (tV d L) ↦{ql} fl)
            ∗ (∃ f, nM.view.loc (tV d L) ↦{fullShare} f) ∗ (∃ f, rM.view.loc (tV d L) ↦{fullShare} f)
            ∗ semVal (tV d L, .dma q0.sem) 0 ∗ semVal (tV d L, .dma q1.sem) 0 ∗ semVal (tV d L, .dma q2.sem) 0 ∗ semVal (tV d L, .dma q3.sem) 0
            ∗ OutIs d L xM lM oM fx fl 0 ∗ OutIs d L xM lM oM fx fl 1 ∗ OutIs d L xM lM oM fx fl 2
            ∗ Waited d L O W) := by
  rw [cc0__pool_body_eq_skeleton]
  unfold cc0__pool_body_skel
  rw [wp_bind]
  refine BIBase.Entails.trans ?_ ((fetch d L xM hx lM hl oM ho nM hn aM ha bM hb rM hr s9 s10 q0 q1 q2 q3 ql fl
    iprop(Rest d L xM aM s9 qa fx ∗ Rest d L xM bM s10 qb fx ∗ (∃ f, rM.view.loc (tV d L) ↦{fullShare} f)
        ∗ semVal (tV d L, .dma q1.sem) 0 ∗ semVal (tV d L, .dma q2.sem) 0 ∗ semVal (tV d L, .dma q3.sem) 0
        ∗ OutAny (F := F) d L oM 0 ∗ OutAny (F := F) d L oM 1 ∗ OutAny (F := F) d L oM 2) O W h1 h2).trans (wp_mono _ _ _ fun r => ?_))
  · iintro ⟨Hra, Hrb, Hl, Hn, Hr, Hq0, Hq1, Hq2, Hq3, Ho0, Ho1, Ho2, HO, Hmw⟩
    iframe
  obtain ⟨arg0, v, hw, v23, w2, v24, v29, v31, v32⟩ := r
  dsimp only
  refine given fun hv => ?_
  rw [wp_bind]
  rw [← hv] at h1 h2
  refine BIBase.Entails.trans ?_ ((first_chunks d L xM hx lM hl oM ho nM hn aM ha bM hb rM hr s9 s10 q0 q1 q2 q3 qa qb fx
    iprop((∃ f, rM.view.loc (tV d L) ↦{fullShare} f)
        ∗ semVal (tV d L, .dma q1.sem) 0 ∗ semVal (tV d L, .dma q2.sem) 0 ∗ semVal (tV d L, .dma q3.sem) 0
        ∗ OutAny (F := F) d L oM 0 ∗ OutAny (F := F) d L oM 1 ∗ OutAny (F := F) d L oM 2
        ∗ (lM.view.loc (tV d L) ↦{ql} fl) ∗ (∃ f, nM.view.loc (tV d L) ↦{fullShare} f) ∗ semVal (tV d L, .dma q0.sem) 0
        ∗ Waited d L O W ∗ Transfers.MayWaits (tV d L) (default : HIx 1) O) arg0 v23 w2 v24 v29 v31 v32).trans (wp_mono _ _ _ fun r => ?_))
  · iintro ⟨⟨Hra, Hrb, Hr, Hq1, Hq2, Hq3, Ho0, Ho1, Ho2⟩, Hl, Hn, Hq0, HO, Hmw⟩
    iframe
  obtain ⟨v41, v50, v51, w24, v69, w25⟩ := r
  dsimp only
  iintro ⟨%hpay, ⟨⟨%fr, Hr⟩, Hq1, Hq2, Hq3, Ho0, Ho1, Ho2, Hl, Hn, Hq0, HO, #Hmw⟩, Hca, Hcb⟩
  obtain ⟨rfl, rfl⟩ := hpay
  simp only [k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton]
  unfold k0_part21_skel
  unfold Waited
  icases HO with ⟨%W', %hW, HO⟩
  sl_rw [Prog.bind_assoc]
  sl_for (pairInv d L (xM := xM) (aM := aM) (bM := bM) s9 s10 qa qb fx v.toNat O W) $$ [Hca Hcb HO]
  case region =>
    intro p a
    exact pair_trip d L (v := v) hw h2 _ _ _ _ arg0 qa qb fx O W _ _ p a
  · have hp0 : 0 < pairs v.toNat := pairs_pos h1
    unfold pairInv Waited
    isplitr
    · ipureintro; exact (acc_start (tileX d L xM fx)).trans (congrArg (accAt (tileX d L xM fx)) (by simp))
    isplitl [Hca Hcb]
    · iapply (Entails.of_eq (if_pos hp0).symm)
      isplitl [Hca] <;> iassumption
    isplitl [HO]
    · iexists W'
      isplitr
      · ipureintro; exact hW
      iexact HO
    iexact Hmw
  iintro %acc HI
  unfold pairInv
  icases HI with ⟨%hacc, HR, HO, -⟩
  ihave HR := (Entails.of_eq (if_neg (Nat.not_lt.2 (t1_trips h2).ge))) $$ HR
  icases HR with ⟨Hra, Hrb⟩
  have hacc1 : acc = accAt (tileX d L xM fx) v.toNat := hacc.trans (congrArg (accAt (tileX d L xM fx)) ((congrArg (fun t => min v.toNat (256 * t)) (t1_trips h2)).trans (by unfold pairs; omega)))
  clear hacc
  sl_respell []
  sl_rw [Prog.bind_assoc]
  sl_for (fun _ a => iprop(⌜a = acc⌝ : sProp 𝕄)) $$ []
  case region =>
    intro r
    exact (t6_none r).elim
  · ipureintro; rfl
  iintro %acc2 %hacc2
  subst hacc2
  subst hacc1
  unfold Rest Waited
  icases Hra with ⟨⟨%fa, Ha⟩, Hs9, Hxa⟩
  icases HO with ⟨%W'', %hW', HO⟩
  sl_exec
  have hlast := holds_last (F := F) d L xM aM fx h1 h2
    inb_S128x1x256_S1x1x256_0_0_0 (k0_off137_inb L v hw) (fun _ => rfl) aM.view.junk
  ihave Hr := (rows_known (d := d) (L := L) (rM := rM) (tileX d L xM fx) v _
    (by
      iterate 16
        refine List.forall_mem_cons.2 ⟨fun x => piece2 (inb := piece_inb (by decide) (by decide)) x, ?_⟩
        refine List.forall_mem_cons.2 ⟨fun x => piece1 (inb := piece_inb (by decide) (by decide)) x, ?_⟩
        refine List.forall_mem_cons.2 ⟨fun x => piece0_cov hlast (inb' := piece_inb (by decide) (by decide)) x, ?_⟩
      exact fun p hp => absurd hp List.not_mem_nil)
    (View.cover_of_tiled _ ![1, 16] (by sl_kernel_rfl))) $$ Hr
  icases Hr with ⟨%gr, %hgr, Hr⟩
  icases (show OutAny (F := F) d L oM 0 ⊢ (∃ f, (outM L oM 0).view.loc (tV d L)
      ↦[(oM.slice (Rect.unit (s := S16x1536) (k0_off138 L 0#32) S1x256.size (k0_off138_inb L 0)) (fun _ => rfl)).view.set]{fullShare} f : sProp 𝕄)
    from .rfl) $$ Ho0 with ⟨%f0, Ho0⟩
  icases (show OutAny (F := F) d L oM 1 ⊢ (∃ f, (outM L oM 1).view.loc (tV d L)
      ↦[(oM.slice (Rect.unit (s := S16x1536) (k0_off138 L 512#32) S1x256.size (k0_off138_inb L 1)) (fun _ => rfl)).view.set]{fullShare} f : sProp 𝕄)
    from .rfl) $$ Ho1 with ⟨%f1, Ho1⟩
  icases (show OutAny (F := F) d L oM 2 ⊢ (∃ f, (outM L oM 2).view.loc (tV d L)
      ↦[(oM.slice (Rect.unit (s := S16x1536) (k0_off138 L 1024#32) S1x256.size (k0_off138_inb L 2)) (fun _ => rfl)).view.set]{fullShare} f : sProp 𝕄)
    from .rfl) $$ Ho2 with ⟨%f2, Ho2⟩
  sl_exec
  sl_step
  isplitl [Ha Hs9 Hxa]
  · isplitl [Ha]; · iexists _; iexact Ha
    isplitl [Hs9] <;> iassumption
  isplitl [Hrb]; · iexact Hrb
  isplitl [Hl]; · iexact Hl
  isplitl [Hn]; · iexact Hn
  isplitl [Hr]; · iexists _; iexact Hr
  isplitl [Hq0]; · iexact Hq0
  isplitl [Hq1]; · iexact Hq1
  isplitl [Hq2]; · iexact Hq2
  isplitl [Hq3]; · iexact Hq3
  isplitl [Ho0]
  · iapply (out_is d L xM lM oM rM fx fl hv hgr 0 f0 (inb_S3x256_S1x256_0_0) (fun _ => rfl)); iexact Ho0
  isplitl [Ho1]
  · iapply (out_is d L xM lM oM rM fx fl hv hgr 1 f1 (inb_S3x256_S1x256_1_0) (fun _ => rfl)); iexact Ho1
  isplitl [Ho2]
  · iapply (out_is d L xM lM oM rM fx fl hv hgr 2 f2 (inb_S3x256_S1x256_2_0) (fun _ => rfl)); iexact Ho2
  iexists _
  isplitr
  swap; · iexact HO
  ipureintro
  intro x hx
  iterate 4
    rcases Finset.mem_insert.1 hx with rfl | hx
    · exact Or.inr rfl
  exact hW' x hx

end Cert.Proof.Pool

end
-- ==== Proof.Deal.lean ====
/-
  How the arrays are dealt to the tiles: a share of the two inputs to each, and three pieces of the output, which are
  apart and make it up.
-/
module

public import proofs.«01_k».proof.Proof.Tile
public import Idealize.ShloMosaic.Lib.ShareLeaves

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S4096x16x512 EltTy.f32)
local notation "lV" => (Memref.whole Cert.KernelIdeal.main_arg1_scv : Memref Cert.KernelIdeal.sig Kind.scVector Space.hbm Cert.KernelIdeal.S16 EltTy.i32)
local notation "oV" => (Memref.whole Cert.KernelIdeal.main_v0_scv : Memref Cert.KernelIdeal.sig Kind.scVector Space.hbm Cert.KernelIdeal.S16x1536 EltTy.f32)

variable (m : (ℓ : Loc nD τ sig) → Buf (Elt F) ℓ) (d : Dev nD)

def coordsV (c : Fin (grid0.bound 0)) (s : Fin (grid0.bound 1)) : grid0.Coords :=
  fun | 0 => c | 1 => s | ⟨_ + 2, h⟩ => absurd h (Nat.not_lt.2 (Nat.le_add_left _ _))

/-! ## The pieces of the output -/

/-- Piece `r` of tile `(c, i)`: row `i`, the 256 columns from `512 r + 256 c`. -/
abbrev piece (L : grid0.Coords) (r : Fin 3) : Finset S16x1536.Idx := (outM L oV r).view.set

theorem column_word : ∀ (c : Fin 2) (r : Fin 3),
    (Scalar.addi (BitVec.ofNat 32 (512 * r.val)) (Scalar.muli (BitVec.ofNat 32 c.val) 256#32)).toNat = 512 * r.val + 256 * c.val := by decide

theorem row_word : ∀ i : Fin 16, (BitVec.ofNat 32 i.val).toNat = i.val := by decide

theorem off138_eq (L : grid0.Coords) (r : Fin 3) :
    k0_off138 L (BitVec.ofNat 32 (512 * r.val)) = ![(L 1).val, 512 * r.val + 256 * (L 0).val] := by
  unfold k0_off138
  have h0 := column_word (L 0) r
  have h1 := row_word (L 1)
  simp only [h0, h1]

theorem mem_piece (L : grid0.Coords) (r : Fin 3) (j : S16x1536.Idx) :
    j ∈ piece L r ↔ (j 0).val = (L 1).val ∧ 512 * r.val + 256 * (L 0).val ≤ (j 1).val ∧ (j 1).val < 512 * r.val + 256 * (L 0).val + 256 := by
  have e : piece L r = (Rect.unit (s := S16x1536) (k0_off138 L (BitVec.ofNat 32 (512 * r.val))) S1x256.size (k0_off138_inb L r)).set := by
    show ((View.whole (main_v0_scv : Ref sig .scVector)).slice _).set = _
    rw [View.set_slice]; exact Finset.map_refl
  rw [e, Rect.mem_set_unit, off138_eq]
  constructor
  · intro h
    have h0 := h 0
    have h1 := h 1
    simp [S1x256] at h0 h1
    omega
  · rintro ⟨h0, h1⟩ a
    match a with
    | 0 => simp [S1x256]; omega
    | 1 => simp [S1x256]; omega

/-- The pieces of a tile, and those of a SparseCore's sixteen. -/
def tileSet (c : Fin 2) (i : Fin 16) : Finset S16x1536.Idx := (Finset.univ : Finset (Fin 3)).biUnion fun r => piece (coordsV c i) r
def coreSet (c : Fin 2) : Finset S16x1536.Idx := (Finset.univ : Finset (Fin 16)).biUnion fun i => tileSet c i

theorem mem_tileSet (c : Fin 2) (i : Fin 16) (j : S16x1536.Idx) : j ∈ tileSet c i ↔ (j 0).val = i.val ∧ (j 1).val / 256 % 2 = c.val := by
  unfold tileSet
  simp only [Finset.mem_biUnion, Finset.mem_univ, true_and, mem_piece]
  have hj : (j 1).val < 1536 := (j 1).isLt
  have hc := c.isLt
  constructor
  · rintro ⟨r, h0, h1, h2⟩
    refine ⟨h0, ?_⟩
    change 512 * r.val + 256 * c.val ≤ _ at h1
    change _ < 512 * r.val + 256 * c.val + 256 at h2
    omega
  · rintro ⟨h0, h1⟩
    refine ⟨⟨(j 1).val / 512, by omega⟩, h0, ?_, ?_⟩
    · show 512 * ((j 1).val / 512) + 256 * c.val ≤ _; omega
    · show _ < 512 * ((j 1).val / 512) + 256 * c.val + 256; omega

theorem mem_coreSet (c : Fin 2) (j : S16x1536.Idx) : j ∈ coreSet c ↔ (j 1).val / 256 % 2 = c.val := by
  unfold coreSet
  simp only [Finset.mem_biUnion, Finset.mem_univ, true_and, mem_tileSet]
  exact ⟨fun ⟨_, _, h⟩ => h, fun h => ⟨j 0, rfl, h⟩⟩

theorem pieces_apart (c : Fin 2) (i : Fin 16) : ∀ r ∈ (Finset.univ : Finset (Fin 3)), ∀ r' ∈ (Finset.univ : Finset (Fin 3)), r ≠ r' →
    Disjoint (piece (coordsV c i) r) (piece (coordsV c i) r') := by
  intro r _ r' _ h
  refine Finset.disjoint_left.2 fun j h1 h2 => h (Fin.ext ?_)
  rw [mem_piece] at h1 h2
  omega

theorem tiles_apart (c : Fin 2) : ∀ i ∈ (Finset.univ : Finset (Fin 16)), ∀ i' ∈ (Finset.univ : Finset (Fin 16)), i ≠ i' →
    Disjoint (tileSet c i) (tileSet c i') := by
  intro i _ i' _ h
  refine Finset.disjoint_left.2 fun j h1 h2 => h (Fin.ext ?_)
  rw [mem_tileSet] at h1 h2
  omega

theorem cores_apart : ∀ c ∈ (Finset.univ : Finset (Fin 2)), ∀ c' ∈ (Finset.univ : Finset (Fin 2)), c ≠ c' →
    Disjoint (coreSet c) (coreSet c') := by
  intro c _ c' _ h
  refine Finset.disjoint_left.2 fun j h1 h2 => h (Fin.ext ?_)
  rw [mem_coreSet] at h1 h2
  omega

theorem cores_cover : (Finset.univ : Finset (Fin 2)).biUnion coreSet = Finset.univ := by
  ext j
  simp only [Finset.mem_biUnion, Finset.mem_univ, true_and, mem_coreSet, iff_true]
  exact ⟨⟨(j 1).val / 256 % 2, by omega⟩, rfl⟩

/-! ## What a tile is dealt -/

/-- A tile's share of an input. -/
abbrev tq (c : Fin 2) (i : Fin 16) : PosShare TreeShare := ShareLeaves.leaf 4 (ShareLeaves.leaf 1 fullShare c) i

abbrev outPts (f : Buf (Elt F) (oLoc d)) (c : Fin 2) (i : Fin 16) (r : Fin 3) : sProp 𝕄 := oLoc d ↦[piece (coordsV c i) r]{fullShare} f

/-- A tile's share of the inputs and its pieces of the output, which holds `f`. -/
abbrev dealt (f : Buf (Elt F) (oLoc d)) (c : Fin 2) (i : Fin 16) : sProp 𝕄 :=
  iprop(((xLoc d ↦{(tq c i).left} m (xLoc d)) ∗ (xLoc d ↦{(tq c i).right} m (xLoc d))) ∗ (lLoc d ↦{tq c i} m (lLoc d))
    ∗ outPts d f c i 0 ∗ outPts d f c i 1 ∗ outPts d f c i 2)

theorem shares_eq {ℓ : Loc nD τ sig} (f : Buf (Elt F) ℓ) :
    (ℓ ↦{fullShare} f : sProp 𝕄) = bigSep Finset.univ fun c : Fin 2 => bigSep Finset.univ fun i : Fin 16 => ℓ ↦{tq c i} f :=
  (ShareLeaves.pointsTo_leaves Finset.univ f 1 fullShare).trans
    (bigSep_congr fun c _ => ShareLeaves.pointsTo_leaves Finset.univ f 4 _)

theorem halves_eq {ℓ : Loc nD τ sig} (q : PosShare TreeShare) (f : Buf (Elt F) ℓ) :
    (ℓ ↦{q} f : sProp 𝕄) = iprop((ℓ ↦{q.left} f) ∗ ℓ ↦{q.right} f) :=
  BI.Entails.antisymm (pointsTo_share (PosShare.mem_left_op_right q)).1 (pointsTo_share (PosShare.mem_left_op_right q)).2

theorem three (Φ : Fin 3 → sProp 𝕄) : bigSep Finset.univ Φ = iprop(Φ 0 ∗ Φ 1 ∗ Φ 2) :=
  bigSep_univ_eq_bigSepL [0, 1, 2] (by decide) (by decide) Φ

theorem pieces_eq (f : Buf (Elt F) (oLoc d)) :
    (oLoc d ↦{fullShare} f : sProp 𝕄) = bigSep Finset.univ fun c : Fin 2 => bigSep Finset.univ fun i : Fin 16 =>
      iprop(outPts d f c i 0 ∗ outPts d f c i 1 ∗ outPts d f c i 2) := by
  have h : (oLoc d ↦{fullShare} f : sProp 𝕄) = bigSep Finset.univ fun c : Fin 2 => oLoc d ↦[coreSet c]{fullShare} f := by
    rw [← pointsTo_biUnion Finset.univ (ℓ := oLoc d) coreSet cores_apart, cores_cover]; try rfl
  rw [h]
  refine bigSep_congr fun c _ => ?_
  refine (pointsTo_biUnion Finset.univ (ℓ := oLoc d) (tileSet c) (tiles_apart c)).trans ?_
  refine bigSep_congr fun i _ => ?_
  exact (pointsTo_biUnion Finset.univ (ℓ := oLoc d) (piece (coordsV c i)) (pieces_apart c i)).trans (three _)

/-- The arrays whole are what the tiles are dealt. -/
theorem dealt_eq (f : Buf (Elt F) (oLoc d)) :
    iprop((xLoc d ↦{fullShare} m (xLoc d)) ∗ (lLoc d ↦{fullShare} m (lLoc d)) ∗ oLoc d ↦{fullShare} f)
      = bigSep Finset.univ fun c : Fin 2 => bigSep Finset.univ fun i : Fin 16 => dealt m d f c i := by
  rw [shares_eq (m (xLoc d)), shares_eq (m (lLoc d)), pieces_eq, ← bigSep_sep', ← bigSep_sep']
  refine bigSep_congr fun c _ => ?_
  rw [← bigSep_sep', ← bigSep_sep']
  refine bigSep_congr fun i _ => ?_
  rw [halves_eq (tq c i) (m (xLoc d))]

/-! ## What the output ends at -/

/-- The output at row `b`, column `q`: of block `q / 512`, column `q % 512` of sequence `b` pooled. -/
def result : Buf (Elt F) (oLoc d) := fun j : S16x1536.Idx =>
  let L := coordsV ⟨(j 1).val / 256 % 2, Nat.mod_lt _ (by decide)⟩ (j 0)
  pooled (tileX d L xV (m (xLoc d))) (len d L lV (m (lLoc d))) ((j 1).val / 512) ((j 1).val % 256)

theorem coords_eta (L : grid0.Coords) : coordsV (L 0) (L 1) = L := by
  funext a
  match a with
  | 0 => rfl
  | 1 => rfl

/-- A piece a tile has written holds its part of `result`. -/
theorem out_result (L : grid0.Coords) (r : Fin 3) :
    OutIs d L xV lV oV (m (xLoc d)) (m (lLoc d)) r ⊢ (oLoc d ↦[piece L r]{fullShare} result m d : sProp 𝕄) := by
  unfold OutIs
  iintro ⟨%f, %hf, H⟩
  have e : ((outM L oV r).view.loc (tV d L) ↦[(outM L oV r).view.set]{fullShare} f : sProp 𝕄) = (oLoc d ↦[piece L r]{fullShare} result m d : sProp 𝕄) := by
    refine pointsTo_congr fun j hj => ?_
    obtain ⟨k, -, rfl⟩ := Finset.mem_map.1 hj
    obtain ⟨h0, h1⟩ := (mem_piece L r _).1 hj
    have hk : ((outM L oV r).view.emb k 1).val = 512 * r.val + 256 * (L 0).val + (k 1).val := by
      show ((Rect.unit (s := S16x1536) (k0_off138 L (BitVec.ofNat 32 (512 * r.val))) S1x256.size (k0_off138_inb L r)).emb k 1).val = _
      rw [unit_emb]; exact congrArg (· + (k 1).val) (congrFun (off138_eq L r) 1)
    have h := hf k
    rw [View.read_apply, cast_eq] at h
    refine h.trans ?_
    have hc : (L 0).val < 2 := (L 0).isLt
    have hk1 : (k 1).val < 256 := (k 1).isLt
    have hL : coordsV ⟨((outM L oV r).view.emb k 1).val / 256 % 2, Nat.mod_lt _ (by decide)⟩ ((outM L oV r).view.emb k 0) = L := by
      refine Eq.trans ?_ (coords_eta L)
      congr 1
      · apply Fin.ext
        show ((outM L oV r).view.emb k 1).val / 256 % 2 = (L 0).val
        omega
      · exact Fin.ext h0
    unfold result
    dsimp only
    rw [hL, show ((outM L oV r).view.emb k 1).val / 512 = r.val by omega, show ((outM L oV r).view.emb k 1).val % 256 = (k 1).val by omega]
  ihave H' := (Entails.of_eq e) $$ H
  iexact H'

end Cert.Proof.Pool

end
-- ==== Proof.Launch.lean ====
/-
  The launch: every thread's run from any memory whose lengths are between 1 and 4096 ends with the inputs as they were
  and the output at `result`.
-/
module

public import proofs.«01_k».proof.Proof.Deal

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S4096x16x512 EltTy.f32)
local notation "lV" => (Memref.whole Cert.KernelIdeal.main_arg1_scv : Memref Cert.KernelIdeal.sig Kind.scVector Space.hbm Cert.KernelIdeal.S16 EltTy.i32)
local notation "oV" => (Memref.whole Cert.KernelIdeal.main_v0_scv : Memref Cert.KernelIdeal.sig Kind.scVector Space.hbm Cert.KernelIdeal.S16x1536 EltTy.f32)
local notation "nV" => (Memref.whole Cert.KernelIdeal.cc0_scratch0 : Memref Cert.KernelIdeal.sig Kind.scVector Space.vmem Cert.KernelIdeal.S32 EltTy.i32)
local notation "aV" => (Memref.whole Cert.KernelIdeal.cc0_scratch1 : Memref Cert.KernelIdeal.sig Kind.scVector Space.vmem Cert.KernelIdeal.S128x1x256 EltTy.f32)
local notation "bV" => (Memref.whole Cert.KernelIdeal.cc0_scratch2 : Memref Cert.KernelIdeal.sig Kind.scVector Space.vmem Cert.KernelIdeal.S128x1x256 EltTy.f32)
local notation "rV" => (Memref.whole Cert.KernelIdeal.cc0_scratch3 : Memref Cert.KernelIdeal.sig Kind.scVector Space.vmem Cert.KernelIdeal.S3x256 EltTy.f32)

variable (m : (ℓ : Loc nD τ sig) → Buf (Elt F) ℓ) (ρ : Dev nD → PrngReg)

theorem nCore_zero : (K (F := F)).nCore 0 = 2 := rfl

/-! ## What the calls carry -/

/-- A SparseCore takes what its sixteen tiles are dealt, and brings it back with the output's pieces at `result`. -/
def P : (K (F := F)).Pay (nD := nD) (Val := Elt F) (Name := ℕ) (U := UU) where
  st := fun q d c => match q with | 0 => bigSep Finset.univ fun i : Fin 16 => dealt m d (m (oLoc d)) (Fin.cast nCore_zero c) i
  dn := fun q d c => match q with | 0 => bigSep Finset.univ fun i : Fin 16 => dealt m d (result m d) (Fin.cast nCore_zero c) i
  go := fun q d c i => match q with | 0 => dealt m d (m (oLoc d)) (Fin.cast nCore_zero c) (Fin.cast nSub_zero i)
  td := fun q d c i => match q with | 0 => dealt m d (result m d) (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => dealt m d (m (oLoc d)) (Fin.cast nCore_zero c) i))
  dn q d c := match q with
    | 0 => (inferInstance : BI.Storable (upEmb : UEmb _ 𝕄) (bigSep Finset.univ fun i : Fin 16 => dealt m d (result m d) (Fin.cast nCore_zero c) i))
  go q d c i := match q with
    | 0 => (inferInstance : BI.Storable (upEmb : UEmb _ 𝕄) (dealt m d (m (oLoc d)) (Fin.cast nCore_zero c) (Fin.cast nSub_zero i)))
  td q d c i := match q with
    | 0 => (inferInstance : BI.Storable (upEmb : UEmb _ 𝕄) (dealt m d (result m d) (Fin.cast nCore_zero c) (Fin.cast nSub_zero i)))

/-- What is asked of the launch memory: every length is between 1 and 4096. -/
def PreOK : Prop := ∀ (d : Dev nD) (j : S16.Idx), 1 ≤ (m (lLoc d) j : BitVec 32).toNat ∧ (m (lLoc d) j : BitVec 32).toNat ≤ 4096

/-! ## A tile's own semaphores and buffers -/

section Tile

variable (d : Dev nD) (L : grid0.Coords)

abbrev cellOf (s : DmaSems sig S_) : GSem nD τ sig := (tV d L, .dma s.sem)

theorem own_cell {s : DmaSems sig S_} (h : (SemLoc.dma s.sem : SemLoc sig).isScoped .scVector = true) : cellOf d L s ∈ ownCells (tV d L) :=
  (mem_ownCells (g := cellOf d L s)).mpr ⟨rfl, h⟩

theorem cell_ne {s t : DmaSems sig S_} (h : s.sem ≠ t.sem) : cellOf d L s ≠ cellOf d L t :=
  fun e => h (SemLoc.dma.inj (Prod.mk.inj e).2)

abbrev bufOf (b : Ref sig .scVector) : DevRef τ sig := (Proc.scVector (cV L) (jV L)).devRef b

theorem buf_ne {a b : Ref sig .scVector} (h : a ≠ b) : bufOf L a ≠ bufOf L b := fun e => h (Proc.devRef_injective _ e)

theorem own_buf {b : Ref sig .scVector} (h : (bufOf L b).owner = .proc (Proc.scVector (cV L) (jV L))) : bufOf L b ∈ ownRefs (τ := τ) (.scVector (cV L) (jV L)) :=
  SparseCore.Cfg.mem_ownRefs_of_owner h

/-- The six semaphores the tile uses, and the rest of its own. -/
theorem ownSems0_V : ∃ R : sProp 𝕄, (ownSems0 (tV d L) : sProp 𝕄)
      = iprop(semVal (cellOf d L cc0_scratch4) 0 ∗ semVal (cellOf d L cc0_scratch5) 0 ∗ semVal (cellOf d L cc0_scoped0) 0
          ∗ semVal (cellOf d L cc0_scoped1) 0 ∗ semVal (cellOf d L cc0_scoped2) 0 ∗ semVal (cellOf d L cc0_scoped3) 0 ∗ R) := by
  unfold SparseCore.Cfg.ownSems0
  apply Exists.intro
  rw [SparseCore.bigSep_erase' (own_cell d L (s := cc0_scratch4) (by decide)),
    SparseCore.bigSep_erase' (i := cellOf d L cc0_scratch5) (by
      repeat' first | exact own_cell d L (by decide) | refine Finset.mem_erase.mpr ⟨cell_ne d L (by decide), ?_⟩),
    SparseCore.bigSep_erase' (i := cellOf d L cc0_scoped0) (by
      repeat' first | exact own_cell d L (by decide) | refine Finset.mem_erase.mpr ⟨cell_ne d L (by decide), ?_⟩),
    SparseCore.bigSep_erase' (i := cellOf d L cc0_scoped1) (by
      repeat' first | exact own_cell d L (by decide) | refine Finset.mem_erase.mpr ⟨cell_ne d L (by decide), ?_⟩),
    SparseCore.bigSep_erase' (i := cellOf d L cc0_scoped2) (by
      repeat' first | exact own_cell d L (by decide) | refine Finset.mem_erase.mpr ⟨cell_ne d L (by decide), ?_⟩),
    SparseCore.bigSep_erase' (i := cellOf d L cc0_scoped3) (by
      repeat' first | exact own_cell d L (by decide) | refine Finset.mem_erase.mpr ⟨cell_ne d L (by decide), ?_⟩)]

/-- The four scratch buffers, at some contents, and the rest of its own. -/
theorem ownBufs_V : ∃ R : sProp 𝕄, (ownBufs (tV d L) : sProp 𝕄)
      = iprop((∃ f, (nV).view.loc (tV d L) ↦{fullShare} f) ∗ (∃ f, (aV).view.loc (tV d L) ↦{fullShare} f)
          ∗ (∃ f, (bV).view.loc (tV d L) ↦{fullShare} f) ∗ (∃ f, (rV).view.loc (tV d L) ↦{fullShare} f) ∗ R) := by
  unfold SparseCore.Cfg.ownBufs
  apply Exists.intro
  refine (SparseCore.bigSep_erase' (i := bufOf L cc0_scratch0) (own_buf L rfl)).trans ?_
  rw [SparseCore.bigSep_erase' (i := bufOf L cc0_scratch1) (by
      repeat' first | exact own_buf L rfl | refine Finset.mem_erase.mpr ⟨buf_ne L (by decide), ?_⟩),
    SparseCore.bigSep_erase' (i := bufOf L cc0_scratch2) (by
      repeat' first | exact own_buf L rfl | refine Finset.mem_erase.mpr ⟨buf_ne L (by decide), ?_⟩),
    SparseCore.bigSep_erase' (i := bufOf L cc0_scratch3) (by
      repeat' first | exact own_buf L rfl | refine Finset.mem_erase.mpr ⟨buf_ne L (by decide), ?_⟩)]

/-- A tile's task: from what it is dealt, to the same with its pieces of the output at `result`. -/
theorem tile_body (c : Fin 2) (i : Fin 16) (hF : (K (F := F)).Facts) (hpre : PreOK m) (O : CellTallies nD τ sig (HIx 1)) (W : Waits sig (HIx 1)) (hO : ∀ g, O g none = 0) :
    iprop(levAts (K (F := F)).L (K (F := F)).lev ∗ emp ∗ dealt m d (m (oLoc d)) c i
        ∗ scopedBufs (tV d (coordsV c i)) ∗ scopedSems0 (tV d (coordsV c i)) ∗ owes (tV d (coordsV c i)) O W)
      ⊢ wp frame (wpE (defs₀ (F := F)) 𝒱₀ (tV d (coordsV c i)) none) Set.univ
          (cc0__pool_body (coordsV c i) xV (Memref.isWhole_whole _) lV (Memref.isWhole_whole _) oV (Memref.isWhole_whole _)
            nV (Memref.isWhole_whole _) aV (Memref.isWhole_whole _) bV (Memref.isWhole_whole _) rV (Memref.isWhole_whole _)
            cc0_scratch4 cc0_scratch5 cc0_scoped0 cc0_scoped1 cc0_scoped2 cc0_scoped3)
          fun _ => iprop(dealt m d (result m d) c i
            ∗ scopedBufs (tV d (coordsV c i)) ∗ scopedSems0 (tV d (coordsV c i))
            ∗ ∃ W', ⌜∀ p ∈ W', p ∈ W ∨ p.2 = none⌝ ∗ owes (tV d (coordsV c i)) O W') := by
  generalize hL : coordsV c i = L
  obtain ⟨Rs, hs⟩ := ownSems0_V (F := F) d L
  obtain ⟨Rb, hb⟩ := ownBufs_V (F := F) d L
  rw [(K (F := F)).scopedBufs_V hF d (cV L) (jV L), SparseCore.Cfg.scopedSems0_V (Val := Elt F) d (cV L) (jV L), hs, hb]
  unfold dealt outPts
  rw [hL]
  have hlen := hpre d (lenIx L)
  refine BIBase.Entails.trans ?_ ((BIBase.Entails.trans (sep_mono_left (tile_run d L xV (Memref.isWhole_whole _) lV (Memref.isWhole_whole _) oV (Memref.isWhole_whole _)
            nV (Memref.isWhole_whole _) aV (Memref.isWhole_whole _) bV (Memref.isWhole_whole _) rV (Memref.isWhole_whole _)
            cc0_scratch4 cc0_scratch5 cc0_scoped0 cc0_scoped1 cc0_scoped2 cc0_scoped3 (tq c i).left (tq c i).right (tq c i)
            (m (xLoc d)) (m (lLoc d)) O W hlen.1 hlen.2)) (wp_frame_r frame (wpE (defs₀ (F := F)) 𝒱₀ (tV d L) none) Set.univ (R := iprop(Rs ∗ Rb)))).trans (wp_mono _ _ _ fun _ => ?_))
  · unfold Rest OutAny Waited
    iintro ⟨#Hlv, -, ⟨⟨Hxa, Hxb⟩, Hl, Ho0, Ho1, Ho2⟩, ⟨Hn, Ha, Hb, Hr, HRb⟩, ⟨Hs9, Hs10, Hq0, Hq1, Hq2, Hq3, HRs⟩, HO⟩
    ihave Hmw := (show levAts (K (F := F)).L (K (F := F)).lev ⊢ Transfers.MayWaits (tV d L) (default : HIx 1) O from
      (K (F := F)).mayWaits_none (thr := tV d L) hO) $$ Hlv
    isplitr [HRs HRb]
    · isplitl [Ha Hs9 Hxa]; · isplitl [Ha]; · iexact Ha
                              isplitl [Hs9]; · iexact Hs9
                              iexact Hxa
      isplitl [Hb Hs10 Hxb]; · isplitl [Hb]; · iexact Hb
                               isplitl [Hs10]; · iexact Hs10
                               iexact Hxb
      isplitl [Hl]; · iexact Hl
      isplitl [Hn]; · iexact Hn
      isplitl [Hr]; · iexact Hr
      isplitl [Hq0]; · iexact Hq0
      isplitl [Hq1]; · iexact Hq1
      isplitl [Hq2]; · iexact Hq2
      isplitl [Hq3]; · iexact Hq3
      isplitl [Ho0]; · iexists _; iexact Ho0
      isplitl [Ho1]; · iexists _; iexact Ho1
      isplitl [Ho2]; · iexists _; iexact Ho2
      isplitl [HO]
      · iexists W; isplitr
        · ipureintro; exact fun _ h => .inl h
        · iexact HO
      iexact Hmw
    · isplitl [HRs] <;> iassumption
  · unfold Rest Waited
    iintro ⟨⟨⟨Ha, Hs9, Hxa⟩, ⟨Hb, Hs10, Hxb⟩, Hl, Hn, Hr, Hq0, Hq1, Hq2, Hq3, Ho0, Ho1, Ho2, HO⟩, HRs, HRb⟩
    ihave Ho0 := (out_result m d L 0) $$ Ho0
    ihave Ho1 := (out_result m d L 1) $$ Ho1
    ihave Ho2 := (out_result m d L 2) $$ Ho2
    isplitl [Hxa Hxb Hl Ho0 Ho1 Ho2]
    · isplitl [Hxa Hxb]
      · isplitl [Hxa]; · iexact Hxa
        iexact Hxb
      isplitl [Hl]; · iexact Hl
      isplitl [Ho0]; · iexact Ho0
      isplitl [Ho1] <;> iassumption
    isplitl [Ha Hb Hn Hr HRb]
    · isplitl [Hn]; · iexact Hn
      isplitl [Ha]; · iexact Ha
      isplitl [Hb]; · iexact Hb
      isplitl [Hr] <;> iassumption
    isplitl [Hs9 Hs10 Hq0 Hq1 Hq2 Hq3 HRs]
    · isplitl [Hs9]; · iexact Hs9
      isplitl [Hs10]; · iexact Hs10
      isplitl [Hq0]; · iexact Hq0
      isplitl [Hq1]; · iexact Hq1
      isplitl [Hq2]; · iexact Hq2
      isplitl [Hq3] <;> iassumption
    iexact HO

theorem defs₀_vector (c : Fin τ.nSC) (s : Fin τ.nSub) :
    defs₀ (F := F) (.scVector c s) 0 ()
      = SparseCore.onTile hcore0 hsub0 (fun c s => cc0__pool_body (coordsV c s)
          xV (Memref.isWhole_whole _) lV (Memref.isWhole_whole _) oV (Memref.isWhole_whole _)
          nV (Memref.isWhole_whole _) aV (Memref.isWhole_whole _) bV (Memref.isWhole_whole _) rV (Memref.isWhole_whole _)
          cc0_scratch4 cc0_scratch5 cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

end Tile

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (Fin.cast nCore_zero c) (Fin.cast nSub_zero i) hF hpre O W hO).trans (wp_mono frame _ _ fun _ => obl_post)

/-! ## The deal at each level -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => dealt m d (m (oLoc d)) (Fin.cast nCore_zero c) i) ⊢ |={Set.univ}=> iprop(
      (bigSep Finset.univ fun i : Fin ((K (F := F)).nSub 0) => dealt m d (m (oLoc d)) (Fin.cast nCore_zero c) (Fin.cast nSub_zero i))
      ∗ ((bigSep Finset.univ fun i : Fin ((K (F := F)).nSub 0) => dealt m d (result m d) (Fin.cast nCore_zero c) (Fin.cast nSub_zero i))
          -∗ bigSep Finset.univ fun i : Fin 16 => dealt m d (result m d) (Fin.cast nCore_zero c) i))
  rw [bigSep_tasks (F := F) (fun i => dealt m d (m (oLoc d)) (Fin.cast nCore_zero c) i),
    bigSep_tasks (F := F) (fun i => dealt m d (result m d) (Fin.cast nCore_zero c) i)]
  iintro H; imodintro
  isplitl [H]; · iexact H
  iintro H
  iexact H

/-- The three arrays on device `d`, the output holding `f`. -/
abbrev arrays (d : Dev nD) (f : Buf (Elt F) (oLoc d)) : sProp 𝕄 :=
  iprop((xLoc d ↦{fullShare} m (xLoc d)) ∗ (lLoc d ↦{fullShare} m (lLoc d)) ∗ oLoc d ↦{fullShare} f)

theorem st0_eq (d : Dev nD) : (bigSep Finset.univ fun c : Fin ((K (F := F)).nCore 0) => (P m).st 0 d c) = arrays m d (m (oLoc d)) :=
  (bigSep_cores (F := F) fun c => bigSep Finset.univ fun i : Fin 16 => dealt m d (m (oLoc d)) c i).trans (dealt_eq m d _).symm
theorem dn0_eq (d : Dev nD) : (bigSep Finset.univ fun c : Fin ((K (F := F)).nCore 0) => (P m).dn 0 d c) = arrays m d (result m d) :=
  (bigSep_cores (F := F) fun c => bigSep Finset.univ fun i : Fin 16 => dealt m d (result m d) c i).trans (dealt_eq m d _).symm

/-! ## The ghost state at launch -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's run -/

theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (result m d) ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st0_eq]
    iexact Harr
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-! ## The whole run -/

def fq (d : Dev nD) (s' : Phys nD τ sig (Elt F)) : Prop :=
  s'.mem.mem (oLoc d) = result m d ∧ s'.mem.mem (xLoc d) = m (xLoc d) ∧ s'.mem.mem (lLoc d) = m (lLoc d)

theorem agree {ℓ : Loc nD τ sig} {f : Buf (Elt F) ℓ} (s' : Phys nD τ sig (Elt F)) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

set_option maxRecDepth 16384 in
theorem hfin (d : Dev nD) (s' : Phys nD τ sig (Elt F)) : iprop(arrays m d (result m d) ∗ SI s') ⊢ (⌜fq m d s'⌝ : sProp 𝕄) := by
  iintro ⟨⟨Hx, Hl, Ho⟩, HSI⟩
  ihave H := (agree s') $$ [HSI Hx]
  · isplitl [HSI] <;> iassumption
  icases H with ⟨%hx, HSI⟩
  ihave H := (agree s') $$ [HSI Hl]
  · isplitl [HSI] <;> iassumption
  icases H with ⟨%hl, HSI⟩
  ihave H := (agree s') $$ [HSI Ho]
  · isplitl [HSI] <;> iassumption
  icases H with ⟨%ho, HSI⟩
  ipureintro
  exact ⟨ho, hx, hl⟩

def QC : PUnit × MemSt nD τ sig (Elt F) → Prop := fun r =>
  (∀ c : Dev nD, r.2.mem (oLoc c) = result m c ∧ r.2.mem (xLoc c) = m (xLoc c) ∧ r.2.mem (lLoc c) = m (lLoc c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => arrays m d (result m d)) (u₀ (F := F)) (sep_elim_left.trans (hu₀ m)) (hmain m ρ) (fq m) (hfin m) (QC m) (fun _ h hz => ⟨h, hz⟩)

end Cert.Proof.Pool

end
-- ==== Proof.Frames.lean ====
/-
  The frames: from the precondition, every length is between 1 and 4096, and the run does the rest. The original program
  and its idealization are one text, so the run of either is the other's.
-/
module

public import proofs.«01_k».proof.Proof.Launch
public import proofs.«01_k».proof.Proof.Gen.Kernel
public import proofs.«01_k».proof.Proof.Gen.Pre_in_range
public import proofs.«01_k».proof.Proof.Gen.ReferenceIdeal
public import proofs.«01_k».proof.Proof.Gen.ReferenceIdeal.Run
public import Idealize.ShloMosaic.Lib.ReduceAll

@[expose] public section

noncomputable section

namespace Cert.Proof.Pool

open Idealize.ShloMosaic Idealize.SL.Sem

theorem word_range {v : BitVec 32} (e : IntOp.andi (IntOp.cmpi .sge v 1#32) (IntOp.cmpi .sle v 4096#32) = 1#1) :
    1 ≤ v.toNat ∧ v.toNat ≤ 4096 := by
  obtain ⟨e1, e2⟩ := IntOp.andi_eq_one.1 e
  have h1 := IntOp.cmpi_sge.1 e1
  have h2 := IntOp.cmpi_sle.1 e2
  simp only [BitVec.toInt_eq_toNat_cond, BitVec.toNat_ofNat, Nat.reducePow, Nat.reduceMod] at h1 h2
  split at h1 <;> omega

/-- The precondition, as jax computes it, says every length is between 1 and 4096. -/
theorem lengths_of_pre {F : FTy → Type} [FloatOps F] {x : FVec F Cert.Pre_in_range.S4096x16x512 .f32} {l : IVec Cert.Pre_in_range.S16 32}
    (h : Cert.Pre_in_range.fn (F := F) x l = fun _ => 1#1) (j : Cert.Pre_in_range.S16.Idx) : 1 ≤ (l j).toNat ∧ (l j).toNat ≤ 4096 := by
  have : Subsingleton Cert.Pre_in_range.S_.Idx := ⟨fun a b => funext fun i => i.elim0⟩
  have e := congrFun h (fun i => i.elim0)
  unfold Cert.Pre_in_range.fn at e
  exact word_range (Host.reduce_andi_all _ _ _ _ _ e j)

theorem ok_ideal {m : (ℓ : Loc Cert.KernelIdeal.nD Cert.KernelIdeal.τ Cert.KernelIdeal.sig) → Buf (Elt Ideal) ℓ} (h : Cert.Pre_KernelIdeal m) :
    PreOK (F := Ideal) m := fun d j => lengths_of_pre (h d) j

theorem frame_ideal : Cert.quiescent_KernelIdeal := fun m ρ hpre =>
  (θ_run Cert.KernelIdeal.defs _ _).mono (fun _ h => ⟨fun c => (h.1 c).2, h.2⟩) (run_main (F := Ideal) m ρ (ok_ideal hpre))

/-- The frame of the one text read at `Bits`. -/
def QuiescentBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD, Cert.Pre_in_range.fn (F := Bits) (m (xLoc c)) (m (lLoc c)) = fun _ => 1#1) →
    θ_run (Cert.KernelIdeal.defs (F := Bits)) (Cert.KernelIdeal.threads (F := Bits)) ⟨m, fun _ => 0, g⟩ (fun r =>
      (∀ c : Dev Cert.KernelIdeal.nD, r.2.mem (xLoc c) = m (xLoc c) ∧ r.2.mem (lLoc c) = m (lLoc c)) ∧ r.2.sem = fun _ => 0)

theorem quiescent_bits : QuiescentBits := fun m ρ hpre =>
  (θ_run (Cert.KernelIdeal.defs (F := Bits)) _ _).mono (fun _ h => ⟨fun c => (h.1 c).2, h.2⟩)
    (run_main (F := Bits) m ρ fun d j => lengths_of_pre (hpre d) j)

theorem one_text : QuiescentBits = Cert.quiescent_Kernel := by sl_kernel_rfl

theorem frame_kernel : Cert.quiescent_Kernel := one_text ▸ quiescent_bits

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Pool

end
-- ==== Proof.Equation.lean ====
/-
  The equation: at every index, what the tiles write is what the reference computes.
-/
module

public import proofs.«01_k».proof.Proof.Fold
public import proofs.«01_k».proof.Proof.Reference
public import proofs.«01_k».proof.Proof.Frames

@[expose] public section

noncomputable section

namespace Cert.Proof.Pool

open Cert.KernelIdeal Cert.KernelIdeal.Gen
open Idealize.ShloMosaic Idealize.SL.Sem
open scoped BigOperators

local notation "xV" => (Memref.whole Cert.KernelIdeal.main_arg0_scv : Memref Cert.KernelIdeal.sig Kind.scVector Space.hbm Cert.KernelIdeal.S4096x16x512 EltTy.f32)
local notation "lV" => (Memref.whole Cert.KernelIdeal.main_arg1_scv : Memref Cert.KernelIdeal.sig Kind.scVector Space.hbm Cert.KernelIdeal.S16 EltTy.i32)

variable (m : (ℓ : Loc nD τ sig) → Buf (Elt Ideal) ℓ) (d : Dev nD)

/-- The array and the lengths, as the reference takes them. -/
abbrev input : FVec Ideal Cert.ReferenceIdeal.S4096x16x512 .f32 := m (xLoc d)
abbrev lengths : IVec Cert.ReferenceIdeal.S16 32 := m (lLoc d)

theorem len_eq (c : Fin (grid0.bound 0)) (b : Fin 16) : len d (coordsV c b) lV (m (lLoc d)) = lengths m d (Ref.one b) := by
  show m (lLoc d) (lenIx (coordsV c b)) = m (lLoc d) (Ref.one b)
  refine congrArg (m (lLoc d)) (funext fun a => ?_)
  match a with
  | 0 => rfl

/-- The tile's block of the array, at a row and a column of it. -/
theorem tileX_eq (c : Fin (grid0.bound 0)) (b : Fin 16) (t : Fin 4096) (k : Fin 256) (q : Fin 512) (hq : q.val = 256 * c.val + k.val) :
    tileX d (coordsV c b) xV (m (xLoc d)) t.val k.val = input m d (Ref.step t b q) := by
  unfold tileX
  rw [dif_pos ⟨t.isLt, k.isLt⟩]
  show m (xLoc d) (tileIx (coordsV c b) t k) = m (xLoc d) (Ref.step t b q)
  refine congrArg (m (xLoc d)) (funext fun a => Fin.ext ?_)
  match a with
  | 0 => rfl
  | 1 => rfl
  | 2 => exact hq.symm

variable {m} (hpre : PreOK (F := Ideal) m)

include hpre in
/-- A tile's pooled row is the reference's. -/
theorem pooled_eq (c : Fin (grid0.bound 0)) (b : Fin 16) (k : Fin 256) (q : Fin 512) (hq : q.val = 256 * c.val + k.val) (p : Fin 3) :
    pooled (F := Ideal) (tileX d (coordsV c b) xV (m (xLoc d))) (len d (coordsV c b) lV (m (lLoc d))) p.val k.val
      = Ref.part (input m d) (lengths m d) p (Ref.cell b q) := by
  obtain ⟨h1, h2⟩ := hpre d (Ref.one b)
  have h1 : 1 ≤ (lengths m d (Ref.one b)).toNat := h1
  have h2 : (lengths m d (Ref.one b)).toNat ≤ 4096 := h2
  rw [len_eq m d c b]
  match p with
  | 0 =>
    show tileX d (coordsV c b) xV (m (xLoc d)) ((lengths m d (Ref.one b)).toNat - 1) k.val = Ref.lasts _ _ _
    rw [Ref.lasts_apply _ _ b q h1 h2]
    exact tileX_eq m d c b ⟨_, by omega⟩ k q hq
  | 1 =>
    show Ideal.div (sumTo (F := Ideal) _ _) (FloatOps.sitofp (F := Ideal) .f32 (lengths m d (Ref.one b))) = Ref.means _ _ _
    rw [Ref.means_apply, Ref.sums_apply]
    refine congrArg (fun s => Ideal.div s _) (masked_sum _ h2 _ fun t => ?_).symm
    rw [Ref.masked_apply _ _ _ _ _ _ h2, tileX_eq m d c b t k q hq]
    exact congrArg (fun z => if t.val < (lengths m d (Ref.one b)).toNat then _ else z) zero_ideal
  | 2 =>
    show maxTo (F := Ideal) _ _ = Ref.maxima _ _ _
    rw [Ref.maxima_apply]
    refine (masked_max _ h2 _ fun t => ?_).symm
    rw [Ref.masked_apply _ _ _ _ _ _ h2, tileX_eq m d c b t k q hq]
    exact congrArg (fun z => if t.val < (lengths m d (Ref.one b)).toNat then _ else z) ninf_ideal

include hpre in
/-- What the tiles write is the reference's result. -/
theorem result_eq : (result (F := Ideal) m d : FVec Ideal Cert.ReferenceIdeal.S16x1536 .f32) = Ref.whole (input m d) (lengths m d) := by
  funext j
  have hj : (j 1).val < 1536 := (j 1).isLt
  have e := pooled_eq d hpre ⟨(j 1).val / 256 % 2, Nat.mod_lt _ (by decide)⟩ (j 0) ⟨(j 1).val % 256, Nat.mod_lt _ (by decide)⟩
    ⟨(j 1).val % 512, Nat.mod_lt _ (by decide)⟩ (by show (j 1).val % 512 = 256 * ((j 1).val / 256 % 2) + (j 1).val % 256; omega)
    ⟨(j 1).val / 512, by omega⟩
  rw [Ref.whole_apply _ _ j ⟨(j 1).val / 512, by omega⟩ ⟨(j 1).val % 512, Nat.mod_lt _ (by decide)⟩
    (by show (j 1).val = 512 * ((j 1).val / 512) + (j 1).val % 512; omega)]
  exact e

theorem algebraic : Cert.algebraic_KernelIdeal_ReferenceIdeal := by
  intro m g m' g' hpre hargs
  refine ⟨fun c => result (F := Ideal) m c, ?_, ?_⟩
  · exact (θ_run Cert.KernelIdeal.defs _ _).mono (fun _ h c => ⟨(h.1 c).1, (h.1 c).2⟩) (run_main (F := Ideal) m g (ok_ideal hpre))
  · refine (θ_run Cert.ReferenceIdeal.defs _ _).mono (fun r h c => ⟨(h c).1.trans ?_, (h c).2⟩) (Cert.ReferenceIdeal.Value.run (F := Ideal) m' g')
    refine Eq.trans ?_ (result_eq c (ok_ideal hpre)).symm
    have e0 : m' ((c.tc : Thread Cert.ReferenceIdeal.nD Cert.ReferenceIdeal.τ).loc Cert.ReferenceIdeal.main_arg0) = input m c := (hargs c).1
    have e1 : m' ((c.tc : Thread Cert.ReferenceIdeal.nD Cert.ReferenceIdeal.τ).loc Cert.ReferenceIdeal.main_arg1) = lengths m c := (hargs c).2
    rw [← e0, ← e1]
    rfl

end Cert.Proof.Pool

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Equation
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Pool.frame_kernel, Pool.frame_ideal, Pool.frame_reference, fun m ρ _ => Pool.frame_reference m ρ trivial, trivial, Pool.algebraic⟩

end Cert.Proof

end
